-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mean" .f32 0x34AAAAAB#32 ((1 / 3145728 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x256 : Shape := ⟨2, ![8192, 256]⟩
abbrev S1024x256 : Shape := ⟨2, ![1024, 256]⟩
abbrev S256x8 : Shape := ⟨2, ![256, 8]⟩
abbrev S8 : Shape := ⟨1, ![8]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S256x8 .f32) (main_arg5 : FVec F S8 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256x8 .f32 := Host.absf main_arg4
  let main_cst_6 : FVec F S_ .f32 := constant S_ .f32 0x7F800000#32
  let main_v20 : FVec F S256x8 .f32 := broadcastInDim S256x8 ![] bcast_S_S256x8 main_cst_6
  let main_v21 : IVec S256x8 1 := cmpf .olt main_v19 main_v20
  let main_c_7 : IVec S_ 1 := constantI S_ 1 1#1
  let main_v22 : IVec S_ 1 := (fun x v => Host.reduce IntOp.andi x v reducesTo_S256x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S8192x256 .f32) (main_arg1 : FVec F S1024x256 .f32) (main_arg2 : FVec F S1024x256 .f32) (main_arg3 : FVec F S1024x256 .f32) (main_arg4 : FVec F S256x8 .f32) (main_arg5 : FVec F S8 .f32) (main_arg6 : IVec S8192 32) (main_arg7 : IVec S8192 32) (main_arg8 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_v13 main_v16
-- ==== Kernel.lean ====
abbrev S8192x256 : Shape := ⟨2, ![8192, 256]⟩
abbrev S1024x256 : Shape := ⟨2, ![1024, 256]⟩
abbrev S256x8 : Shape := ⟨2, ![256, 8]⟩
abbrev S8 : Shape := ⟨1, ![8]⟩
abbrev S8192 : Shape := ⟨1, ![8192]⟩
abbrev S1x8 : Shape := ⟨2, ![1, 8]⟩
abbrev S8192x4 : Shape := ⟨2, ![8192, 4]⟩
abbrev S4x1x3 : Shape := ⟨3, ![4, 1, 3]⟩
abbrev S2048x256 : Shape := ⟨2, ![2048, 256]⟩
abbrev S2048x4 : Shape := ⟨2, ![2048, 4]⟩
abbrev S1x1x3 : Shape := ⟨3, ![1, 1, 3]⟩
abbrev S1024 : Shape := ⟨1, ![1024]⟩
abbrev S2048 : Shape := ⟨1, ![2048]⟩
abbrev S2048x1024 : Shape := ⟨2, ![2048, 1024]⟩
abbrev S2048x1 : Shape := ⟨2, ![2048, 1]⟩
abbrev S1x1024 : Shape := ⟨2, ![1, 1024]⟩
abbrev S1x2048x256 : Shape := ⟨3, ![1, 2048, 256]⟩
abbrev S1 : Shape := ⟨1, ![1]⟩
abbrev S1x1x1 : Shape := ⟨3, ![1, 1, 1]⟩
abbrev S2048x8 : Shape := ⟨2, ![2048, 8]⟩
abbrev S3 : Shape := ⟨1, ![3]⟩
abbrev S_ : Shape := ⟨0, ![]⟩

abbrev nBuf : Space → Nat
  | .hbm => 15
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S256x8, .f32⟩
  | .hbm, ⟨5, _⟩ => ⟨S8, .f32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S1x8, .f32⟩
  | .hbm, ⟨10, _⟩ => ⟨S8192x256, .f32⟩
  | .hbm, ⟨11, _⟩ => ⟨S8192x4, .i32⟩
  | .hbm, ⟨12, _⟩ => ⟨S4x1x3, .f32⟩
  | .hbm, ⟨13, _⟩ => ⟨S_, .f32⟩
  | .hbm, ⟨14, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S256x8, .f32⟩
  | .local _ .vmem, ⟨6, _⟩ => ⟨S1x8, .f32⟩
  | .local _ .vmem, ⟨7, _⟩ => ⟨S2048x256, .f32⟩
  | .local _ .vmem, ⟨8, _⟩ => ⟨S2048x256, .f32⟩
  | .local _ .vmem, ⟨9, _⟩ => ⟨S2048x4, .i32⟩
  | .local _ .vmem, ⟨10, _⟩ => ⟨S2048x4, .i32⟩
  | .local _ .vmem, ⟨11, _⟩ => ⟨S1x1x3, .f32⟩
  | .local _ .vmem, ⟨12, _⟩ => ⟨S1x1x3, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_cst : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x4 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mean" => some ((1 / 3145728 : ℝ) : EReal)
  | _ => none
-- ==== ReferenceIdeal.lean ====
abbrev S8192x256 : Shape := ⟨2, ![8192, 256]⟩
abbrev S1024x256 : Shape := ⟨2, ![1024, 256]⟩
abbrev S256x8 : Shape := ⟨2, ![256, 8]⟩
abbrev S8 : Shape := ⟨1, ![8]⟩
abbrev S8192 : Shape := ⟨1, ![8192]⟩
abbrev S8192x8 : Shape := ⟨2, ![8192, 8]⟩
abbrev S1x8 : Shape := ⟨2, ![1, 8]⟩
abbrev S_ : Shape := ⟨0, ![]⟩
abbrev S8192x1 : Shape := ⟨2, ![8192, 1]⟩
abbrev S256x1024 : Shape := ⟨2, ![256, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S3 : Shape := ⟨1, ![3]⟩
abbrev S8192x4 : Shape := ⟨2, ![8192, 4]⟩

abbrev nBuf : Space → Nat
  | .hbm => 239
  | .vmem => 0
  | .smem => 0
  | _ => 0

abbrev hbmTy0_0 (i : Nat) : BufTy := match i % 128 with
  | 0 => ⟨S8192x256, .f32⟩
  | 1 => ⟨S1024x256, .f32⟩
  | 2 => ⟨S1024x256, .f32⟩
  | 3 => ⟨S1024x256, .f32⟩
  | 4 => ⟨S256x8, .f32⟩
  | 5 => ⟨S8, .f32⟩
  | 6 => ⟨S8192, .i32⟩
  | 7 => ⟨S8192, .i32⟩
  | 8 => ⟨S8192, .i32⟩
  | 9 => ⟨S8192x8, .f32⟩
  | 10 => ⟨S1x8, .f32⟩
  | 11 => ⟨S8192x8, .f32⟩
  | 12 => ⟨S8192x8, .f32⟩
  | 13 => ⟨S_, .f32⟩
  | 14 => ⟨S8192, .f32⟩
  | 15 => ⟨S_, .f32⟩
  | 16 => ⟨S8192, .f32⟩
  | 17 => ⟨S8192, .f32⟩
  | 18 => ⟨S8192x1, .f32⟩
  | 19 => ⟨S8192x8, .f32⟩
  | 20 => ⟨S8192x8, .f32⟩
  | 21 => ⟨S8192x8, .f32⟩
  | 22 => ⟨S_, .f32⟩
  | 23 => ⟨S8192, .f32⟩
  | 24 => ⟨S8192x1, .f32⟩
  | 25 => ⟨S8192x8, .f32⟩
  | 26 => ⟨S8192x8, .f32⟩
  | 27 => ⟨S_, .f32⟩
  | 28 => ⟨S8192x256, .f32⟩
  | 29 => ⟨S8192x256, .f32⟩
  | 30 => ⟨S_, .f32⟩
  | 31 => ⟨S8192, .f32⟩
  | 32 => ⟨S8192x1, .f32⟩
  | 33 => ⟨S_, .f32⟩
  | 34 => ⟨S8192x256, .f32⟩
  | 35 => ⟨S8192x256, .f32⟩
  | 36 => ⟨S256x1024, .f32⟩
  | 37 => ⟨S8192x1024, .f32⟩
  | 38 => ⟨S8192x1024, .f32⟩
  | 39 => ⟨S8192x1024, .f32⟩
  | 40 => ⟨S1024x256, .f32⟩
  | 41 => ⟨S_, .f32⟩
  | 42 => ⟨S1024, .f32⟩
  | 43 => ⟨S1x1024, .f32⟩
  | 44 => ⟨S8192x1024, .f32⟩
  | 45 => ⟨S8192x1024, .f32⟩
  | 46 => ⟨S8192x1024, .i32⟩
  | 47 => ⟨S_, .f32⟩
  | 48 => ⟨S_, .i32⟩
  | 49 => ⟨S8192, .f32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S1, .i32⟩
  | 60 => ⟨S_, .i32⟩
  | 61 => ⟨S8192x1, .i32⟩
  | 62 => ⟨S8192x1, .i1⟩
  | 63 => ⟨S1x1, .i32⟩
  | 64 => ⟨S8192x1, .i32⟩
  | 65 => ⟨S8192x1, .i1⟩
  | 66 => ⟨S8192x1, .i1⟩
  | 67 => ⟨S_, .i1⟩
  | 68 => ⟨S8192, .i1⟩
  | 69 => ⟨S8192x256, .f32⟩
  | 70 => ⟨S8192x256, .i1⟩
  | 71 => ⟨S_, .f32⟩
  | 72 => ⟨S8192x256, .f32⟩
  | 73 => ⟨S8192x256, .f32⟩
  | 74 => ⟨S8192x256, .f32⟩
  | 75 => ⟨S8192x256, .f32⟩
  | 76 => ⟨S_, .f32⟩
  | 77 => ⟨S_, .f32⟩
  | 78 => ⟨S_, .f32⟩
  | 79 => ⟨S_, .f32⟩
  | 80 => ⟨S8192x256, .f32⟩
  | 81 => ⟨S8192x256, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8192x256, .f32⟩
  | 90 => ⟨S8192x256, .f32⟩
  | 91 => ⟨S8192x256, .f32⟩
  | 92 => ⟨S8192x256, .f32⟩
  | 93 => ⟨S8192x256, .f32⟩
  | 94 => ⟨S_, .f32⟩
  | 95 => ⟨S8192, .f32⟩
  | 96 => ⟨S8192x1, .f32⟩
  | 97 => ⟨S_, .f32⟩
  | 98 => ⟨S8192x256, .f32⟩
  | 99 => ⟨S8192x256, .f32⟩
  | 100 => ⟨S256x1024, .f32⟩
  | 101 => ⟨S8192x1024, .f32⟩
  | 102 => ⟨S8192x1024, .f32⟩
  | 103 => ⟨S8192x1024, .f32⟩
  | 104 => ⟨S1024x256, .f32⟩
  | 105 => ⟨S_, .f32⟩
  | 106 => ⟨S1024, .f32⟩
  | 107 => ⟨S1x1024, .f32⟩
  | 108 => ⟨S8192x1024, .f32⟩
  | 109 => ⟨S8192x1024, .f32⟩
  | 110 => ⟨S8192x1024, .i32⟩
  | 111 => ⟨S_, .f32⟩
  | 112 => ⟨S_, .i32⟩
  | 113 => ⟨S8192, .f32⟩
  | 114 => ⟨S8192, .i32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S1, .i32⟩
  | 124 => ⟨S_, .i32⟩
  | 125 => ⟨S8192x1, .i32⟩
  | 126 => ⟨S8192x1, .i1⟩
  | 127 => ⟨S1x1, .i32⟩
  | _ => ⟨S8192x256, .f32⟩

abbrev hbmTy0_1 (i : Nat) : BufTy := match i % 128 with
  | 0 => ⟨S8192x1, .i32⟩
  | 1 => ⟨S8192x1, .i1⟩
  | 2 => ⟨S8192x1, .i1⟩
  | 3 => ⟨S_, .i1⟩
  | 4 => ⟨S8192, .i1⟩
  | 5 => ⟨S8192x256, .f32⟩
  | 6 => ⟨S8192x256, .i1⟩
  | 7 => ⟨S_, .f32⟩
  | 8 => ⟨S8192x256, .f32⟩
  | 9 => ⟨S8192x256, .f32⟩
  | 10 => ⟨S8192x256, .f32⟩
  | 11 => ⟨S8192x256, .f32⟩
  | 12 => ⟨S_, .f32⟩
  | 13 => ⟨S_, .f32⟩
  | 14 => ⟨S_, .f32⟩
  | 15 => ⟨S_, .f32⟩
  | 16 => ⟨S8192x256, .f32⟩
  | 17 => ⟨S8192x256, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S8192x256, .f32⟩
  | 26 => ⟨S8192x256, .f32⟩
  | 27 => ⟨S8192x256, .f32⟩
  | 28 => ⟨S8192x256, .f32⟩
  | 29 => ⟨S8192x256, .f32⟩
  | 30 => ⟨S_, .f32⟩
  | 31 => ⟨S8192, .f32⟩
  | 32 => ⟨S8192x1, .f32⟩
  | 33 => ⟨S_, .f32⟩
  | 34 => ⟨S8192x256, .f32⟩
  | 35 => ⟨S8192x256, .f32⟩
  | 36 => ⟨S256x1024, .f32⟩
  | 37 => ⟨S8192x1024, .f32⟩
  | 38 => ⟨S8192x1024, .f32⟩
  | 39 => ⟨S8192x1024, .f32⟩
  | 40 => ⟨S1024x256, .f32⟩
  | 41 => ⟨S_, .f32⟩
  | 42 => ⟨S1024, .f32⟩
  | 43 => ⟨S1x1024, .f32⟩
  | 44 => ⟨S8192x1024, .f32⟩
  | 45 => ⟨S8192x1024, .f32⟩
  | 46 => ⟨S8192x1024, .i32⟩
  | 47 => ⟨S_, .f32⟩
  | 48 => ⟨S_, .i32⟩
  | 49 => ⟨S8192, .f32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S1, .i32⟩
  | 60 => ⟨S_, .i32⟩
  | 61 => ⟨S8192x1, .i32⟩
  | 62 => ⟨S8192x1, .i1⟩
  | 63 => ⟨S1x1, .i32⟩
  | 64 => ⟨S8192x1, .i32⟩
  | 65 => ⟨S8192x1, .i1⟩
  | 66 => ⟨S8192x1, .i1⟩
  | 67 => ⟨S_, .i1⟩
  | 68 => ⟨S8192, .i1⟩
  | 69 => ⟨S8192x256, .f32⟩
  | 70 => ⟨S8192x256, .i1⟩
  | 71 => ⟨S_, .f32⟩
  | 72 => ⟨S8192x256, .f32⟩
  | 73 => ⟨S8192x256, .f32⟩
  | 74 => ⟨S8192x256, .f32⟩
  | 75 => ⟨S8192x256, .f32⟩
  | 76 => ⟨S_, .f32⟩
  | 77 => ⟨S_, .f32⟩
  | 78 => ⟨S_, .f32⟩
  | 79 => ⟨S_, .f32⟩
  | 80 => ⟨S8192x256, .f32⟩
  | 81 => ⟨S8192x256, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8192x256, .f32⟩
  | 90 => ⟨S8192x256, .f32⟩
  | 91 => ⟨S8192x256, .f32⟩
  | 92 => ⟨S8192x256, .f32⟩
  | 93 => ⟨S8192x8, .i32⟩
  | 94 => ⟨S_, .f32⟩
  | 95 => ⟨S_, .i32⟩
  | 96 => ⟨S8192, .f32⟩
  | 97 => ⟨S8192, .i32⟩
  | 98 => ⟨S1, .f32⟩
  | 99 => ⟨S1, .f32⟩
  | 100 => ⟨S1, .f32⟩
  | 101 => ⟨S3, .f32⟩
  | 102 => ⟨S_, .f32⟩
  | 103 => ⟨S_, .f32⟩
  | 104 => ⟨S_, .f32⟩
  | 105 => ⟨S_, .f32⟩
  | 106 => ⟨S8192x1, .i32⟩
  | 107 => ⟨S8192x1, .i32⟩
  | 108 => ⟨S8192x1, .i32⟩
  | 109 => ⟨S8192x1, .i32⟩
  | 110 => ⟨S8192x4, .i32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_v0 : Ref sig .tc := ⟨.hbm, 46, rfl⟩
abbrev main_call0_cst : Ref sig .tc := ⟨.hbm, 47, rfl⟩
abbrev main_call0_c : Ref sig .tc := ⟨.hbm, 48, rfl⟩
abbrev main_call0_v1_0 : Ref sig .tc := ⟨.hbm, 49, rfl⟩
abbrev main_v30 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_6 : Ref sig .tc := ⟨.hbm, 76, rfl⟩
abbrev main_v34 : Ref sig .tc := ⟨.hbm, 77, rfl⟩
abbrev main_cst_7 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_8 : Ref sig .tc := ⟨.hbm, 82, rfl⟩
abbrev main_v38 : Ref sig .tc := ⟨.hbm, 83, rfl⟩
abbrev main_cst_9 : Ref sig .tc := ⟨.hbm, 84, rfl⟩
abbrev main_v39 : Ref sig .tc := ⟨.hbm, 85, rfl⟩
abbrev main_cst_10 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_11 : Ref sig .tc := ⟨.hbm, 94, rfl⟩
abbrev main_v47 : Ref sig .tc := ⟨.hbm, 95, rfl⟩
abbrev main_v48 : Ref sig .tc := ⟨.hbm, 96, rfl⟩
abbrev main_cst_12 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_13 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_call2_v0 : Ref sig .tc := ⟨.hbm, 110, rfl⟩
abbrev main_call2_cst : Ref sig .tc := ⟨.hbm, 111, rfl⟩
abbrev main_call2_c : Ref sig .tc := ⟨.hbm, 112, rfl⟩
abbrev main_call2_v1_0 : Ref sig .tc := ⟨.hbm, 113, rfl⟩
abbrev main_v60 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_14 : Ref sig .tc := ⟨.hbm, 140, rfl⟩
abbrev main_v64 : Ref sig .tc := ⟨.hbm, 141, rfl⟩
abbrev main_cst_15 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_cst_16 : Ref sig .tc := ⟨.hbm, 146, rfl⟩
abbrev main_v68 : Ref sig .tc := ⟨.hbm, 147, rfl⟩
abbrev main_cst_17 : Ref sig .tc := ⟨.hbm, 148, rfl⟩
abbrev main_v69 : Ref sig .tc := ⟨.hbm, 149, rfl⟩
abbrev main_cst_18 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_19 : Ref sig .tc := ⟨.hbm, 158, rfl⟩
abbrev main_v77 : Ref sig .tc := ⟨.hbm, 159, rfl⟩
abbrev main_v78 : Ref sig .tc := ⟨.hbm, 160, rfl⟩
abbrev main_cst_20 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_cst_21 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_call4_v0 : Ref sig .tc := ⟨.hbm, 174, rfl⟩
abbrev main_call4_cst : Ref sig .tc := ⟨.hbm, 175, rfl⟩
abbrev main_call4_c : Ref sig .tc := ⟨.hbm, 176, rfl⟩
abbrev main_call4_v1_0 : Ref sig .tc := ⟨.hbm, 177, rfl⟩
abbrev main_v90 : Ref sig .tc := ⟨.hbm, 178, rfl⟩
abbrev main_call5_c : Ref sig .tc := ⟨.hbm, 179, rfl⟩
abbrev main_call5_v0 : Ref sig .tc := ⟨.hbm, 180, rfl⟩
abbrev main_call5_v1 : Ref sig .tc := ⟨.hbm, 181, rfl⟩
abbrev main_call5_c_0 : Ref sig .tc := ⟨.hbm, 182, rfl⟩
abbrev main_call5_v2 : Ref sig .tc := ⟨.hbm, 183, rfl⟩
abbrev main_call5_v3 : Ref sig .tc := ⟨.hbm, 184, rfl⟩
abbrev main_call5_v4 : Ref sig .tc := ⟨.hbm, 185, rfl⟩
abbrev main_call5_v5 : Ref sig .tc := ⟨.hbm, 186, rfl⟩
abbrev main_call5_c_1 : Ref sig .tc := ⟨.hbm, 187, rfl⟩
abbrev main_call5_c_2 : Ref sig .tc := ⟨.hbm, 188, rfl⟩
abbrev main_call5_v6 : Ref sig .tc := ⟨.hbm, 189, rfl⟩
abbrev main_call5_v7 : Ref sig .tc := ⟨.hbm, 190, rfl⟩
abbrev main_call5_v8 : Ref sig .tc := ⟨.hbm, 191, rfl⟩
abbrev main_call5_v9 : Ref sig .tc := ⟨.hbm, 192, rfl⟩
abbrev main_call5_v10 : Ref sig .tc := ⟨.hbm, 193, rfl⟩
abbrev main_call5_v11 : Ref sig .tc := ⟨.hbm, 194, rfl⟩
abbrev main_call5_c_3 : Ref sig .tc := ⟨.hbm, 195, rfl⟩
abbrev main_call5_v12 : Ref sig .tc := ⟨.hbm, 196, rfl⟩
abbrev main_call5_v13 : Ref sig .tc := ⟨.hbm, 197, rfl⟩
abbrev main_call5_v14 : Ref sig .tc := ⟨.hbm, 198, rfl⟩
abbrev main_call5_cst : Ref sig .tc := ⟨.hbm, 199, rfl⟩
abbrev main_call5_v15 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_cst_22 : Ref sig .tc := ⟨.hbm, 204, rfl⟩
abbrev main_v94 : Ref sig .tc := ⟨.hbm, 205, rfl⟩
abbrev main_cst_23 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_cst_24 : Ref sig .tc := ⟨.hbm, 210, rfl⟩
abbrev main_v98 : Ref sig .tc := ⟨.hbm, 211, rfl⟩
abbrev main_cst_25 : Ref sig .tc := ⟨.hbm, 212, rfl⟩
abbrev main_v99 : Ref sig .tc := ⟨.hbm, 213, rfl⟩
abbrev main_cst_26 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_call6_v0 : Ref sig .tc := ⟨.hbm, 221, rfl⟩
abbrev main_call6_cst : Ref sig .tc := ⟨.hbm, 222, rfl⟩
abbrev main_call6_c : Ref sig .tc := ⟨.hbm, 223, rfl⟩
abbrev main_call6_v1_0 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_cst_27 : Ref sig .tc := ⟨.hbm, 230, rfl⟩
abbrev main_v111 : Ref sig .tc := ⟨.hbm, 231, rfl⟩
abbrev main_cst_28 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩

abbrev nD : Nat := 1
abbrev τ : Topo := Topo.v7x

variable {F : FTy → Type} [FloatOps F]
-- ==== Proof.FirstMin.lean ====
/- The first index at which a finite family of extended reals is least (or greatest), and the two ways a program
   finds it: the least word among the indices where the family meets its minimum, and a fold of (value, index) pairs. -/
module

public import Idealize.ShloMosaic.PureOps
public import Idealize.ShloMosaic.PureOps.Ideal.Laws
public import Idealize.ShloMosaic.PureOps.Reduce

@[expose] public section

namespace Cert.Rvq

open Idealize.ShloMosaic

variable {n : ℕ}

/-- `i` is the first index at which `f` is least. -/
def IsFirstMin (f : Fin n → EReal) (i : Fin n) : Prop := (∀ j, f i ≤ f j) ∧ ∀ j, f j ≤ f i → i ≤ j

/-- A family over a nonempty index range has a first least index. -/
theorem exists_isFirstMin [NeZero n] (f : Fin n → EReal) : ∃ i, IsFirstMin f i := by
  classical
  obtain ⟨m, -, hm⟩ := Finset.exists_min_image Finset.univ f ⟨0, Finset.mem_univ _⟩
  have hne : (Finset.univ.filter fun i : Fin n => f i ≤ f m).Nonempty := ⟨m, by simp⟩
  refine ⟨(Finset.univ.filter fun i : Fin n => f i ≤ f m).min' hne, ?_, ?_⟩
  · intro j
    have h := Finset.min'_mem _ hne
    exact (Finset.mem_filter.mp h).2.trans (hm j (Finset.mem_univ _))
  · intro j hj
    have h := Finset.min'_mem _ hne
    exact Finset.min'_le (Finset.univ.filter fun i : Fin n => f i ≤ f m) j (Finset.mem_filter.mpr ⟨Finset.mem_univ _, hj.trans (Finset.mem_filter.mp h).2⟩)

/-- The first index at which `f` is least. -/
noncomputable def firstMin [NeZero n] (f : Fin n → EReal) : Fin n := (exists_isFirstMin f).choose

theorem firstMin_spec [NeZero n] (f : Fin n → EReal) : IsFirstMin f (firstMin f) := (exists_isFirstMin f).choose_spec

/-- There is only one such index. -/
theorem firstMin_eq [NeZero n] {f : Fin n → EReal} {i : Fin n} (h : IsFirstMin f i) : firstMin f = i :=
  le_antisymm ((firstMin_spec f).2 i (h.1 _)) (h.2 _ ((firstMin_spec f).1 i))

/-- The first index at which `f` is greatest: the first at which its negative is least. -/
noncomputable def firstMax [NeZero n] (f : Fin n → EReal) : Fin n := firstMin fun i => -f i

/-- A family that orders the indices the same way has the same first greatest index. -/
theorem firstMax_congr [NeZero n] {f g : Fin n → EReal} (h : ∀ i j, f i ≤ f j ↔ g i ≤ g j) : firstMax f = firstMax g := by
  refine firstMin_eq ⟨fun j => ?_, fun j hj => (firstMin_spec fun i => -g i).2 j ?_⟩
  · have := (firstMin_spec fun i => -g i).1 j
    rw [EReal.neg_le_neg_iff] at this ⊢
    exact (h _ _).mpr this
  · rw [EReal.neg_le_neg_iff] at hj ⊢
    exact (h _ _).mp hj

/-! ## Words -/

/-- A number below `2 ^ 31` as a 32-bit word, read as a signed integer, is itself. -/
theorem toInt_ofNat {k : ℕ} (hk : k < 2 ^ 31) : (BitVec.ofNat 32 k).toInt = (k : ℤ) := by
  rw [BitVec.toInt_eq_toNat_cond, BitVec.toNat_ofNat, Nat.mod_eq_of_lt (by omega), if_pos (by omega)]

/-- The signed minimum of two words, read as an integer. -/
theorem toInt_minsi (a b : BitVec 32) : (IntOp.minsi a b).toInt = min a.toInt b.toInt := by
  simp only [IntOp.minsi, BitVec.slt, decide_eq_true_eq]
  split_ifs with h <;> omega

/-- A number is at most the signed minimum of a family of words exactly when it is at most each of them. -/
theorem le_toInt_fold_minsi {ι : Type} (S : Finset ι) (w : ι → BitVec 32) (a : BitVec 32) (c : ℤ) :
    c ≤ (S.fold IntOp.minsi a w).toInt ↔ c ≤ a.toInt ∧ ∀ i ∈ S, c ≤ (w i).toInt := by
  induction S using Finset.cons_induction with
  | empty => simp
  | cons x S hx ih =>
    rw [Finset.fold_cons, toInt_minsi, le_min_iff, ih]
    simp only [Finset.mem_cons, forall_eq_or_imp]
    tauto

/-- The least word among the indices at which `f` meets its minimum `m`, the others counting as `n` and the start
    being the largest word: the first index at which `f` is least. -/
theorem fold_minsi_eq_firstMin [NeZero n] (hn : n < 2 ^ 31) (f : Fin n → EReal) (m : EReal) (hm : ∀ i, m ≤ f i) (hm' : ∃ i, f i = m)
    (w : Fin n → BitVec 32) (hw : ∀ i, w i = if f i = m then BitVec.ofNat 32 i else BitVec.ofNat 32 n) :
    Finset.univ.fold IntOp.minsi 2147483647#32 w = BitVec.ofNat 32 (firstMin f) := by
  obtain ⟨h1, h2⟩ := firstMin_spec f
  obtain ⟨i₀, hi₀⟩ := hm'
  have hmin : f (firstMin f) = m := le_antisymm (hi₀ ▸ h1 i₀) (hm _)
  have hlt := (firstMin f).isLt
  have htop : (2147483647#32 : BitVec 32).toInt = 2147483647 := by decide
  apply BitVec.eq_of_toInt_eq
  apply le_antisymm
  · have := ((le_toInt_fold_minsi Finset.univ w 2147483647#32 _).mp le_rfl).2 (firstMin f) (Finset.mem_univ _)
    rwa [hw, if_pos hmin] at this
  · rw [le_toInt_fold_minsi, toInt_ofNat (by omega), htop]
    refine ⟨by omega, fun i _ => ?_⟩
    rw [hw]
    split_ifs with h
    · rw [toInt_ofNat (by have := i.isLt; omega)]
      exact_mod_cast h2 i (by rw [h, hmin])
    · rw [toInt_ofNat (by omega)]
      omega

/-! ## Folding (value, index) pairs -/

/-- Of two pairs, whether the first comes before: by value, then by the index word read as a signed integer. -/
def Before (a b : EReal × BitVec 32) : Prop := a.1 < b.1 ∨ a.1 = b.1 ∧ a.2.toInt ≤ b.2.toInt

theorem Before.refl (a : EReal × BitVec 32) : Before a a := Or.inr ⟨rfl, le_rfl⟩

theorem Before.trans {a b c : EReal × BitVec 32} (h : Before a b) (h' : Before b c) : Before a c := by
  rcases h with h | ⟨h, h1⟩ <;> rcases h' with h' | ⟨h', h1'⟩
  · exact Or.inl (h.trans h')
  · exact Or.inl (h' ▸ h)
  · exact Or.inl (h ▸ h')
  · exact Or.inr ⟨h.trans h', h1.trans h1'⟩

/-- A reducer that returns the earlier of its two pairs leaves, folded over a list, a pair of the list or the start that
    comes before all of them. -/
theorem foldl_before (f : EReal × BitVec 32 → EReal × BitVec 32 → EReal × BitVec 32)
    (hf : ∀ a b, (f a b = a ∨ f a b = b) ∧ Before (f a b) a ∧ Before (f a b) b) (L : List (EReal × BitVec 32)) (a : EReal × BitVec 32) :
    (L.foldl f a = a ∨ L.foldl f a ∈ L) ∧ Before (L.foldl f a) a ∧ ∀ p ∈ L, Before (L.foldl f a) p := by
  induction L generalizing a with
  | nil => exact ⟨Or.inl rfl, Before.refl a, by simp⟩
  | cons b L ih =>
    obtain ⟨h1, h2, h3⟩ := ih (f a b)
    obtain ⟨g1, g2, g3⟩ := hf a b
    refine ⟨?_, h2.trans g2, ?_⟩
    · rcases h1 with h1 | h1
      · rw [List.foldl_cons, h1]
        rcases g1 with g1 | g1
        · exact Or.inl g1
        · exact Or.inr (by rw [g1]; exact List.mem_cons_self)
      · exact Or.inr (List.mem_cons_of_mem _ h1)
    · intro p hp
      rcases List.mem_cons.mp hp with rfl | hp
      · exact h2.trans g3
      · exact h3 p hp

/-- So over the pairs `(f i, i)`, in any order, from the start `(⊤, 0)`, it leaves the first index at which `f` is least. -/
theorem foldl_eq_firstMin [NeZero n] (hn : n < 2 ^ 31) (f : Fin n → EReal) (g : EReal × BitVec 32 → EReal × BitVec 32 → EReal × BitVec 32)
    (hg : ∀ a b, (g a b = a ∨ g a b = b) ∧ Before (g a b) a ∧ Before (g a b) b) (L : List (EReal × BitVec 32))
    (hL : ∀ p, p ∈ L ↔ ∃ i : Fin n, p = (f i, BitVec.ofNat 32 i)) :
    (L.foldl g (⊤, 0#32)).2 = BitVec.ofNat 32 (firstMin f) := by
  obtain ⟨h1, h2, h3⟩ := foldl_before g hg L (⊤, 0#32)
  obtain ⟨s1, s2⟩ := firstMin_spec f
  have hlt := (firstMin f).isLt
  have hb := h3 _ ((hL _).mpr ⟨firstMin f, rfl⟩)
  generalize L.foldl g (⊤, 0#32) = r at *
  have h0 : (0#32 : BitVec 32).toInt = 0 := by decide
  rcases h1 with rfl | h1
  · rcases hb with hb | ⟨hb, hb'⟩
    · exact absurd hb (not_lt.mpr le_top)
    · have hb : f (firstMin f) = ⊤ := hb.symm
      have h : firstMin f ≤ 0 := s2 0 (hb ▸ le_top)
      have h : (firstMin f : ℕ) = 0 := by simpa using h
      rw [h]
  · obtain ⟨i, rfl⟩ := (hL _).mp h1
    have hi := i.isLt
    rcases hb with hb | ⟨hb, hb'⟩
    · exact absurd hb (not_lt.mpr (s1 i))
    · have hle : firstMin f ≤ i := s2 i hb.le
      simp only [toInt_ofNat (show (i : ℕ) < 2 ^ 31 by omega), toInt_ofNat (show (firstMin f : ℕ) < 2 ^ 31 by omega)] at hb'
      have : i = firstMin f := le_antisymm (by exact_mod_cast hb') hle
      rw [← this]

end Cert.Rvq

end
-- ==== Proof.Spec.lean ====
/- The mathematics of the residual quantizer: what is computed of one row of the input, and of the whole input. -/
module

public import proofs.«01_k».proof.Proof.FirstMin
public import Idealize.ShloMosaic.Lib.Pointwise

@[expose] public section

noncomputable section

namespace Cert.Rvq

open Idealize.ShloMosaic

/-- A row of 256 values. -/
abbrev Row := Fin 256 → EReal
/-- A codebook: 1024 rows. -/
abbrev Book := Fin 1024 → Row

/-- Row `i` of a matrix. -/
def rowOf {n k : ℕ} (x : (⟨2, ![n, k]⟩ : Shape).Idx → EReal) (i : Fin n) : Fin k → EReal := fun j => x (ix2 i j)

/-- The squared distance of `r` to row `k` of the codebook, expanded: `(r·r - 2 r·c) + c·c`. -/
def sqDist (cb : Book) (r : Row) (k : Fin 1024) : EReal :=
  (∑ j, r j * r j - 2 * ∑ j, r j * cb k j) + ∑ j, cb k j * cb k j

/-- The first codebook row nearest to `r`. -/
def near (cb : Book) (r : Row) : Fin 1024 := firstMin (sqDist cb r)

/-- The nearest codebook row less `r`. -/
def diff (cb : Book) (r : Row) : Row := fun j => cb (near cb r) j - r j

/-- What one stage takes out of `r`: `r` plus that difference. -/
def took (cb : Book) (r : Row) : Row := fun j => r j + diff cb r j

/-- What one stage leaves of `r`. -/
def rest (cb : Book) (r : Row) : Row := fun j => r j - took cb r j

/-- The square of the difference, summed over the row. -/
def sqSum (cb : Book) (r : Row) : EReal := ∑ j, diff cb r j * diff cb r j

/-- The quantized row: zero plus what the three stages take. -/
def quant (c0 c1 c2 : Book) (r : Row) : Row := fun j =>
  ((0 + took c0 r j) + took c1 (rest c0 r) j) + took c2 (rest c1 (rest c0 r)) j

/-- The logits of the gate. -/
def logit (w : Fin 256 → Fin 8 → EReal) (b : Fin 8 → EReal) (r : Row) (e : Fin 8) : EReal := (∑ j, r j * w j e) + b e

/-- The expert of a row: the first at which its logits are greatest. -/
def expert (w : Fin 256 → Fin 8 → EReal) (b : Fin 8 → EReal) (r : Row) : Fin 8 := firstMax (logit w b r)

/-- The four indices of a row: the nearest codebook rows of the three stages, and the expert. -/
def codes (c0 c1 c2 : Book) (w : Fin 256 → Fin 8 → EReal) (b : Fin 8 → EReal) (r : Row) : Fin 4 → BitVec 32 :=
  ![BitVec.ofNat 32 (near c0 r), BitVec.ofNat 32 (near c1 (rest c0 r)), BitVec.ofNat 32 (near c2 (rest c1 (rest c0 r))),
    BitVec.ofNat 32 (expert w b r)]

/-- The three stages' squared differences of a row. -/
def losses (c0 c1 c2 : Book) (r : Row) : Fin 3 → EReal := ![sqSum c0 r, sqSum c1 (rest c0 r), sqSum c2 (rest c1 (rest c0 r))]

end Cert.Rvq

end
-- ==== Proof.Facts.lean ====
/- Small facts about extended reals and words that both programs' values use: the literals, finite values, a sum that picks
   one of its terms, and least and greatest values of a family. -/
module

public import proofs.«01_k».proof.Proof.Spec

@[expose] public section

noncomputable section

namespace Cert.Rvq

open Idealize.ShloMosaic

/-- An extended real that is a real number. -/
def IsReal (x : EReal) : Prop := ∃ r : ℝ, x = r

theorem isReal_of_ne {x : EReal} (h : x ≠ ⊤) (h' : x ≠ ⊥) : IsReal x := ⟨x.toReal, (EReal.coe_toReal h h').symm⟩

theorem IsReal.sub_self {x : EReal} (h : IsReal x) : x - x = 0 := by
  obtain ⟨r, rfl⟩ := h
  rw [← EReal.coe_sub, _root_.sub_self, EReal.coe_zero]

theorem IsReal.add {x y : EReal} (hx : IsReal x) (hy : IsReal y) : IsReal (x + y) := by
  obtain ⟨r, rfl⟩ := hx; obtain ⟨s, rfl⟩ := hy
  exact ⟨r + s, (EReal.coe_add r s).symm⟩

theorem IsReal.mul {x y : EReal} (hx : IsReal x) (hy : IsReal y) : IsReal (x * y) := by
  obtain ⟨r, rfl⟩ := hx; obtain ⟨s, rfl⟩ := hy
  exact ⟨r * s, (EReal.coe_mul r s).symm⟩

theorem isReal_sum {ι : Type} (S : Finset ι) (f : ι → EReal) (h : ∀ i, IsReal (f i)) : IsReal (∑ i ∈ S, f i) := by
  induction S using Finset.cons_induction with
  | empty => exact ⟨0, by simp⟩
  | cons x S hx ih => rw [Finset.sum_cons]; exact (h x).add ih

/-- The word `0x40000000` is 2. -/
theorem ofBits_two : Ideal.ofBits .f32 0x40000000#32 = 2 := by
  simp [Ideal.ofBits, Ideal.ieee, -EReal.coe_mul]; norm_num
  rfl

/-- The word `0x3F800000` is 1. -/
theorem ofBits_one : Ideal.ofBits .f32 0x3F800000#32 = 1 := by
  simp [Ideal.ofBits, Ideal.ieee, -EReal.coe_mul]; norm_num

/-- The word `0x40400000` is 3. -/
theorem ofBits_three : Ideal.ofBits .f32 0x40400000#32 = ((3 : ℝ) : EReal) := by
  simp [Ideal.ofBits, Ideal.ieee, -EReal.coe_mul]; norm_num

/-- The word `0x4A000000` is the number of the input's entries. -/
theorem ofBits_count : Ideal.ofBits .f32 0x4A000000#32 = ((2097152 : ℝ) : EReal) := by
  simp [Ideal.ofBits, Ideal.ieee, -EReal.coe_mul]; norm_num

/-- The word `0x7F800000` is plus infinity. -/
theorem ofBits_top : Ideal.ofBits .f32 0x7F800000#32 = ⊤ := by
  simp [Ideal.ofBits, Ideal.ieee]

/-- The word `0xFF800000` is minus infinity. -/
theorem ofBits_bot : Ideal.ofBits .f32 0xFF800000#32 = ⊥ := by
  simp [Ideal.ofBits, Ideal.ieee]

/-- A comparison of two numbers below 1024 as words, read as a float: one where they are equal, else zero. -/
theorem sitofp_eq (a b : Fin 1024) :
    (FloatOps.sitofp (F := Ideal) .f32 (BitVec.setWidth 32 (IntOp.cmpi .eq (BitVec.ofNat 32 a) (BitVec.ofNat 32 b))) : EReal)
      = if a = b then 1 else 0 := by
  by_cases h : a = b
  · subst h
    simp [IntOp.cmpi, FloatOps.sitofp]
  · have h' : BitVec.ofNat 32 (a : ℕ) ≠ BitVec.ofNat 32 (b : ℕ) := fun e => h <| Fin.ext <| by
      have := congrArg BitVec.toNat e
      simp only [BitVec.toNat_ofNat] at this
      omega
    have h'' : (BitVec.ofNat 32 (a : ℕ) == BitVec.ofNat 32 (b : ℕ)) = false := beq_eq_false_iff_ne.mpr h'
    simp [IntOp.cmpi, FloatOps.sitofp, h, h'']

/-- A sum weighted by one at `a` and zero elsewhere is its term at `a`. -/
theorem sum_pick (a : Fin 1024) (f : Fin 1024 → EReal) : ∑ x, (if a = x then (1 : EReal) else 0) * f x = f a := by
  simp [ite_mul]

/-- The minimum of a family from `⊤` is below each of its values, and is one of them. -/
theorem fold_min_spec {n : ℕ} [NeZero n] (f : Fin n → EReal) :
    (∀ i, Finset.univ.fold min ⊤ f ≤ f i) ∧ ∃ i, f i = Finset.univ.fold min ⊤ f := by
  have h : ∀ i, Finset.univ.fold min ⊤ f ≤ f i := fun i => ((Finset.le_fold_min _).mp le_rfl).2 i (Finset.mem_univ _)
  refine ⟨h, ?_⟩
  obtain ⟨h1, -⟩ := firstMin_spec f
  exact ⟨firstMin f, le_antisymm ((Finset.le_fold_min _).mpr ⟨le_top, fun j _ => h1 j⟩) (h _)⟩

/-- The maximum of a family from `⊥` is above each of its values, and is one of them. -/
theorem fold_max_spec {n : ℕ} [NeZero n] (f : Fin n → EReal) :
    (∀ i, f i ≤ Finset.univ.fold max ⊥ f) ∧ ∃ i, f i = Finset.univ.fold max ⊥ f := by
  have h : ∀ i, f i ≤ Finset.univ.fold max ⊥ f := fun i => ((Finset.fold_max_le _).mp le_rfl).2 i (Finset.mem_univ _)
  refine ⟨h, ?_⟩
  obtain ⟨h1, -⟩ := firstMin_spec fun i => -f i
  exact ⟨firstMax f, le_antisymm (h _) ((Finset.fold_max_le _).mpr ⟨bot_le, fun j _ => EReal.neg_le_neg_iff.mp (h1 j)⟩)⟩

/-- The smallest index among those at which `f` meets its minimum, by signed minima of words, is the first. -/
theorem minsi_firstMin {n : ℕ} [NeZero n] (hn : n < 2 ^ 31) (f : Fin n → EReal) (w : Fin n → BitVec 32)
    (hw : ∀ i, w i = if f i = Finset.univ.fold min ⊤ f then BitVec.ofNat 32 i else BitVec.ofNat 32 n) :
    Finset.univ.fold IntOp.minsi 2147483647#32 w = BitVec.ofNat 32 (firstMin f) :=
  fold_minsi_eq_firstMin hn f _ (fold_min_spec f).1 (fold_min_spec f).2 w hw

/-- The smallest index among those at which `f` meets its maximum likewise. -/
theorem minsi_firstMax {n : ℕ} [NeZero n] (hn : n < 2 ^ 31) (f : Fin n → EReal) (w : Fin n → BitVec 32)
    (hw : ∀ i, w i = if f i = Finset.univ.fold max ⊥ f then BitVec.ofNat 32 i else BitVec.ofNat 32 n) :
    Finset.univ.fold IntOp.minsi 2147483647#32 w = BitVec.ofNat 32 (firstMax f) := by
  obtain ⟨h1, i, hi⟩ := fold_max_spec f
  refine fold_minsi_eq_firstMin hn (fun i => -f i) (-Finset.univ.fold max ⊥ f) (fun i => EReal.neg_le_neg_iff.mpr (h1 i)) ⟨i, by rw [hi]⟩ w
    fun i => ?_
  rw [hw]
  simp only [neg_inj]

end Cert.Rvq

end
-- ==== Proof.KernelStage.lean ====
/- What one stage of the kernel computes of a block of 2048 rows, row by row: the index of the nearest codebook row, the
   difference to it, and what is left. -/
module

public import proofs.«01_k».proof.Proof.Facts
public import proofs.«01_k».proof.Proof.Gen.KernelIdeal.Frame

@[expose] public section

noncomputable section

namespace Cert.KernelIdeal.Value

open Idealize.ShloMosaic Idealize.SL.Sem Cert.Rvq
open Cert.KernelIdeal Cert.KernelIdeal.Gen

/-- The difference of a stage. -/
def diffB (v0 : FVec Ideal S2048x256 .f32) (v2 : FVec Ideal S1024x256 .f32) : FVec Ideal S2048x256 .f32 := k0_pay3 (F := Ideal) v0 v2

/-- What a stage leaves of its block. -/
def restB (v0 : FVec Ideal S2048x256 .f32) (v2 : FVec Ideal S1024x256 .f32) : FVec Ideal S2048x256 .f32 := k0_pay7 (F := Ideal) v0 (diffB v0 v2)

/-- What a stage makes of the quantized block. -/
def sumB (v0 x : FVec Ideal S2048x256 .f32) (v2 : FVec Ideal S1024x256 .f32) : FVec Ideal S2048x256 .f32 := k0_pay8 (F := Ideal) v0 x (diffB v0 v2)

/-- A stage's sum of squared differences. -/
def lossB (v0 : FVec Ideal S2048x256 .f32) (v2 : FVec Ideal S1024x256 .f32) : EReal := k0_pay5 (F := Ideal) (k0_pay4 (F := Ideal) v0 v2)

/-- The squared distances of a block's rows to the codebook's. -/
def distB (v0 : FVec Ideal S2048x256 .f32) (v2 : FVec Ideal S1024x256 .f32) : FVec Ideal S2048x1024 .f32 :=
  addf
    (subf (broadcastTo S2048x1024 (shapeCast S2048x1 (multiReduction .add [1] S2048 (mulf v0 v0) 0x00000000#32 reduces_S2048x256_S2048 (.inl rfl) rfl)
        shapeCasts_S2048_S2048x1) broadcasts_S2048x1_S2048x1024)
      (mulf (broadcast S2048x1024 (Scalar.ofBits .f32 0x40000000#32))
        (matmul (φ₁ := .f32) (φ₂ := .f32) dot_S2048x256_S1024x256_S2048x1024_1_1_0_0_n_n none v0 v2 (constant S2048x1024 .f32 0x00000000#32))))
    (broadcastTo S2048x1024 (shapeCast S1x1024 (multiReduction .add [1] S1024 (mulf v2 v2) 0x00000000#32 reduces_S1024x256_S1024 (.inl rfl) rfl)
      shapeCasts_S1024_S1x1024) broadcasts_S1x1024_S2048x1024)

/-- The index where a distance meets its row's least, elsewhere 1024. -/
def candB (d : FVec Ideal S2048x1024 .f32) : IVec S2048x1024 32 :=
  select (cmpf .oeq d (broadcastTo S2048x1024 (shapeCast S2048x1 (multiReduction .minimumf [1] S2048 d 0x7F800000#32 reduces_S2048x1024_S2048 (.inl rfl) rfl)
    shapeCasts_S2048_S2048x1) broadcasts_S2048x1_S2048x1024)) (iota .tc S2048x1024 32 [1] iota_S2048x1024_d1_w32) (broadcast S2048x1024 1024#32)

/-- The stage's indices are the least candidates of each row. -/
theorem idxB_eq (v0 : FVec Ideal S2048x256 .f32) (v2 : FVec Ideal S1024x256 .f32) :
    k0_pay2 (F := Ideal) v0 v2 = multiReductionI .minsi [1] S2048 (candB (distB v0 v2)) 2147483647#32 reduces_S2048x1024_S2048 rfl := rfl

theorem distB_at (v0 : FVec Ideal S2048x256 .f32) (v2 : FVec Ideal S1024x256 .f32) (i : Fin 2048) (k : Fin 1024) :
    distB v0 v2 (ix2 i k) = sqDist (rowOf v2) (rowOf v0 i) k := by
  unfold sqDist rowOf
  pointwise [distB]
  rw [ofBits_two]

theorem candB_at (d : FVec Ideal S2048x1024 .f32) (i : Fin 2048) (k : Fin 1024) :
    candB d (ix2 i k) = if d (ix2 i k) = Finset.univ.fold min ⊤ (fun k : Fin 1024 => d (ix2 i k)) then BitVec.ofNat 32 k else 1024#32 := by
  pointwise [candB]
  rw [ofBits_top]

theorem minsiB_at (d : IVec S2048x1024 32) (i : Fin 2048) :
    multiReductionI .minsi [1] S2048 d 2147483647#32 reduces_S2048x1024_S2048 rfl (ix1 i)
      = Finset.univ.fold IntOp.minsi 2147483647#32 (fun k : Fin 1024 => d (ix2 i k)) := by
  pointwise

/-- The stage's index of a row is that of the nearest codebook row. -/
theorem idxB_at (v0 : FVec Ideal S2048x256 .f32) (v2 : FVec Ideal S1024x256 .f32) (i : Fin 2048) :
    k0_pay2 (F := Ideal) v0 v2 (ix1 i) = BitVec.ofNat 32 (near (rowOf v2) (rowOf v0 i)) := by
  rw [idxB_eq, minsiB_at]
  refine minsi_firstMin (by norm_num) _ _ fun k => ?_
  rw [candB_at]
  simp only [distB_at]

/-- The stage's difference, of a row and a finite codebook. -/
theorem diffB_row (v0 : FVec Ideal S2048x256 .f32) (v2 : FVec Ideal S1024x256 .f32) (h : ∀ k j, IsReal (v2 (ix2 k j))) (i : Fin 2048) :
    rowOf (diffB v0 v2) i = diff (rowOf v2) (rowOf v0 i) := by
  funext j
  have hw := idxB_at v0 v2 i
  unfold diff rowOf at *
  unfold diffB k0_pay3
  generalize k0_pay2 (F := Ideal) v0 v2 = w at *
  pointwise
  rw [hw]
  simp only [sitofp_eq, sum_pick, (h _ _).sub_self, sub_zero, mul_zero, Finset.sum_const_zero, add_zero]

/-- What the stage leaves, by row. -/
theorem restB_row (v0 : FVec Ideal S2048x256 .f32) (v2 : FVec Ideal S1024x256 .f32) (h : ∀ k j, IsReal (v2 (ix2 k j))) (i : Fin 2048) :
    rowOf (restB v0 v2) i = rest (rowOf v2) (rowOf v0 i) := by
  funext j
  have hd := congrFun (diffB_row v0 v2 h i) j
  unfold rest took
  rw [← hd]
  unfold rowOf
  pointwise [restB, k0_pay7, k0_pay6]

/-- What the stage adds to the quantized block, by row. -/
theorem sumB_at (v0 x : FVec Ideal S2048x256 .f32) (v2 : FVec Ideal S1024x256 .f32) (h : ∀ k j, IsReal (v2 (ix2 k j))) (i : Fin 2048) (j : Fin 256) :
    sumB v0 x v2 (ix2 i j) = x (ix2 i j) + took (rowOf v2) (rowOf v0 i) j := by
  have hd := congrFun (diffB_row v0 v2 h i) j
  unfold took
  rw [← hd]
  unfold rowOf
  pointwise [sumB, k0_pay8, k0_pay6]

/-- The stage's squared differences over the block. -/
theorem lossB_eq (v0 : FVec Ideal S2048x256 .f32) (v2 : FVec Ideal S1024x256 .f32) (h : ∀ k j, IsReal (v2 (ix2 k j))) :
    lossB v0 v2 = ∑ i, sqSum (rowOf v2) (rowOf v0 i) := by
  have hd := fun i => congrFun (diffB_row v0 v2 h i)
  unfold sqSum
  simp only [← hd]
  unfold rowOf
  pointwise [lossB, k0_pay5, k0_pay4, diffB]

end Cert.KernelIdeal.Value

end
-- ==== Proof.KernelBlock.lean ====
/- What the kernel computes of one block of 2048 rows: the quantized rows, the four columns of indices, and the three sums
   of squared differences. -/
module

public import proofs.«01_k».proof.Proof.KernelStage

@[expose] public section

noncomputable section

namespace Cert.KernelIdeal.Value

open Idealize.ShloMosaic Idealize.SL.Sem Cert.Rvq
open Cert.KernelIdeal Cert.KernelIdeal.Gen

/-- The quantized block: three stages from zero. -/
def quantB (x : FVec Ideal S2048x256 .f32) (c0 c1 c2 : FVec Ideal S1024x256 .f32) : FVec Ideal S2048x256 .f32 :=
  sumB (restB (restB x c0) c1) (sumB (restB x c0) (sumB x (k0_pay1 (F := Ideal)) c0) c1) c2

/-- The stored block of quantized rows is that. -/
theorem quantB_eq (x : FVec Ideal S2048x256 .f32) (c0 c1 c2 : FVec Ideal S1024x256 .f32) :
    k0_pay24 (F := Ideal) (k0_pay14 (F := Ideal) (restB x c0) (k0_pay10 (F := Ideal) x (diffB x c0) c1))
      (k0_pay15 (F := Ideal) (restB x c0) (k0_pay8 (F := Ideal) x (k0_pay1 (F := Ideal)) (diffB x c0)) (k0_pay10 (F := Ideal) x (diffB x c0) c1))
      (k0_pay17 (F := Ideal) (restB x c0) (k0_pay10 (F := Ideal) x (diffB x c0) c1) c2) (k0_pay21 (F := Ideal) c2)
      (k0_pay22 (F := Ideal) (restB x c0) (k0_pay10 (F := Ideal) x (diffB x c0) c1) c2) (constant S2048x256 .f32 0x00000000#32)
    = quantB x c0 c1 c2 := rfl

/-- The quantized block, by row. -/
theorem quantB_at (x : FVec Ideal S2048x256 .f32) (c0 c1 c2 : FVec Ideal S1024x256 .f32) (h0 : ∀ k j, IsReal (c0 (ix2 k j)))
    (h1 : ∀ k j, IsReal (c1 (ix2 k j))) (h2 : ∀ k j, IsReal (c2 (ix2 k j))) (i : Fin 2048) (j : Fin 256) :
    quantB x c0 c1 c2 (ix2 i j) = quant (rowOf c0) (rowOf c1) (rowOf c2) (rowOf x i) j := by
  have hz : k0_pay1 (F := Ideal) (ix2 i j) = (0 : EReal) := by pointwise [k0_pay1]
  unfold quantB quant
  rw [sumB_at _ _ _ h2, sumB_at _ _ _ h1, sumB_at _ _ _ h0, restB_row _ _ h1, restB_row _ _ h0, hz]

/-- The gate's logits of a block. -/
def logitsB (x : FVec Ideal S2048x256 .f32) (w : FVec Ideal S256x8 .f32) (b : FVec Ideal S1x8 .f32) : FVec Ideal S2048x8 .f32 :=
  addf (matmul (φ₁ := .f32) (φ₂ := .f32) dot_S2048x256_S256x8_S2048x8_1_0_0_1_n_n none x w (constant S2048x8 .f32 0x00000000#32))
    (broadcastTo S2048x8 (shapeCast S1x8 b shapeCasts_S1x8_S1x8) broadcasts_S1x8_S2048x8)

/-- The index where a logit meets its row's greatest, elsewhere 8. -/
def candE (l : FVec Ideal S2048x8 .f32) : IVec S2048x8 32 :=
  select (cmpf .oeq l (broadcastTo S2048x8 (shapeCast S2048x1 (multiReduction .maximumf [1] S2048 l 0xFF800000#32 reduces_S2048x8_S2048 (.inl rfl) rfl)
    shapeCasts_S2048_S2048x1) broadcasts_S2048x1_S2048x8)) (iota .tc S2048x8 32 [1] iota_S2048x8_d1_w32) (broadcast S2048x8 8#32)

/-- The chosen experts of a block. -/
def expertB (x : FVec Ideal S2048x256 .f32) (w : FVec Ideal S256x8 .f32) (b : FVec Ideal S1x8 .f32) : IVec S2048 32 :=
  multiReductionI .minsi [1] S2048 (candE (logitsB x w b)) 2147483647#32 reduces_S2048x8_S2048 rfl

/-- Four columns beside one another. -/
def columnsB (i0 i1 i2 i3 : IVec S2048 32) : IVec S2048x4 32 :=
  concatenate S2048x4 1 [⟨S2048x1, shapeCast S2048x1 i0 shapeCasts_S2048_S2048x1⟩, ⟨S2048x1, shapeCast S2048x1 i1 shapeCasts_S2048_S2048x1⟩,
    ⟨S2048x1, shapeCast S2048x1 i2 shapeCasts_S2048_S2048x1⟩, ⟨S2048x1, shapeCast S2048x1 i3 shapeCasts_S2048_S2048x1⟩]
    concatenates_S2048x1_S2048x1_S2048x1_S2048x1_S2048x4_d1

/-- The block of indices: the three stages' and the expert's. -/
def codesB (x : FVec Ideal S2048x256 .f32) (c0 c1 c2 : FVec Ideal S1024x256 .f32) (w : FVec Ideal S256x8 .f32) (b : FVec Ideal S1x8 .f32) :
    IVec S2048x4 32 :=
  columnsB (k0_pay2 (F := Ideal) x c0) (k0_pay2 (F := Ideal) (restB x c0) c1) (k0_pay2 (F := Ideal) (restB (restB x c0) c1) c2) (expertB x w b)

/-- The stored block of indices is that. -/
theorem codesB_eq (x : FVec Ideal S2048x256 .f32) (c0 c1 c2 : FVec Ideal S1024x256 .f32) (w : FVec Ideal S256x8 .f32) (b : FVec Ideal S1x8 .f32) :
    k0_pay25 (F := Ideal) x (k0_pay2 (F := Ideal) x c0) (k0_pay9 (F := Ideal) x (diffB x c0) c1)
      (k0_pay16 (F := Ideal) (restB x c0) (k0_pay10 (F := Ideal) x (diffB x c0) c1) c2) w b
    = codesB x c0 c1 c2 w b := rfl

theorem logitsB_at (x : FVec Ideal S2048x256 .f32) (w : FVec Ideal S256x8 .f32) (b : FVec Ideal S1x8 .f32) (i : Fin 2048) (e : Fin 8) :
    logitsB x w b (ix2 i e) = logit (rowOf w) (rowOf b 0) (rowOf x i) e := by
  unfold logit rowOf
  pointwise [logitsB]

theorem candE_at (l : FVec Ideal S2048x8 .f32) (i : Fin 2048) (e : Fin 8) :
    candE l (ix2 i e) = if l (ix2 i e) = Finset.univ.fold max ⊥ (fun e : Fin 8 => l (ix2 i e)) then BitVec.ofNat 32 e else 8#32 := by
  pointwise [candE]
  rw [ofBits_bot]

theorem minsiE_at (d : IVec S2048x8 32) (i : Fin 2048) :
    multiReductionI .minsi [1] S2048 d 2147483647#32 reduces_S2048x8_S2048 rfl (ix1 i)
      = Finset.univ.fold IntOp.minsi 2147483647#32 (fun e : Fin 8 => d (ix2 i e)) := by
  pointwise

theorem expertB_at (x : FVec Ideal S2048x256 .f32) (w : FVec Ideal S256x8 .f32) (b : FVec Ideal S1x8 .f32) (i : Fin 2048) :
    expertB x w b (ix1 i) = BitVec.ofNat 32 (expert (rowOf w) (rowOf b 0) (rowOf x i)) := by
  unfold expertB expert
  rw [minsiE_at]
  refine minsi_firstMax (by norm_num) _ _ fun e => ?_
  rw [candE_at]
  simp only [logitsB_at]

theorem columnsB_at (i0 i1 i2 i3 : IVec S2048 32) (i : Fin 2048) (q : Fin 4) :
    columnsB i0 i1 i2 i3 (ix2 i q) = ![i0 (ix1 i), i1 (ix1 i), i2 (ix1 i), i3 (ix1 i)] q := by
  pointwise [columnsB]
  fin_cases q <;> rfl

/-- The block of indices, by row. -/
theorem codesB_at (x : FVec Ideal S2048x256 .f32) (c0 c1 c2 : FVec Ideal S1024x256 .f32) (w : FVec Ideal S256x8 .f32) (b : FVec Ideal S1x8 .f32)
    (h0 : ∀ k j, IsReal (c0 (ix2 k j))) (h1 : ∀ k j, IsReal (c1 (ix2 k j))) (i : Fin 2048) (q : Fin 4) :
    codesB x c0 c1 c2 w b (ix2 i q) = codes (rowOf c0) (rowOf c1) (rowOf c2) (rowOf w) (rowOf b 0) (rowOf x i) q := by
  unfold codesB codes
  rw [columnsB_at, idxB_at, idxB_at, idxB_at, expertB_at, restB_row _ _ h1, restB_row _ _ h0]

/-- Three numbers in a row. -/
def tripleB (l0 l1 l2 : EReal) : FVec Ideal S1x1x3 .f32 :=
  shapeCast S1x1x3 (concatenate S3 0 [⟨S1, broadcast S1 l0⟩, ⟨S1, broadcast S1 l1⟩, ⟨S1, broadcast S1 l2⟩] concatenates_S1_S1_S1_S3_d0) shapeCasts_S3_S1x1x3

/-- The factor of the mean loss, at every place. -/
def factorB : FVec Ideal S1x1x3 .f32 := broadcast S1x1x3 (Named.named (F := Ideal) κ "mean" (φ := .f32) 0x34AAAAAB#32)

/-- The block's three sums of squared differences, each times the factor of the mean loss. -/
def lossesB (x : FVec Ideal S2048x256 .f32) (c0 c1 c2 : FVec Ideal S1024x256 .f32) : FVec Ideal S1x1x3 .f32 :=
  mulf (tripleB (lossB x c0) (lossB (restB x c0) c1) (lossB (restB (restB x c0) c1) c2)) factorB

/-- The stored block of sums is that. -/
theorem lossesB_eq (x : FVec Ideal S2048x256 .f32) (c0 c1 c2 : FVec Ideal S1024x256 .f32) :
    k0_pay26 (F := Ideal) (k0_pay5 (F := Ideal) (k0_pay4 (F := Ideal) x c0))
      (k0_pay12 (F := Ideal) (restB x c0) (k0_pay10 (F := Ideal) x (diffB x c0) c1))
      (k0_pay14 (F := Ideal) (restB x c0) (k0_pay10 (F := Ideal) x (diffB x c0) c1))
      (k0_pay17 (F := Ideal) (restB x c0) (k0_pay10 (F := Ideal) x (diffB x c0) c1) c2) (k0_pay21 (F := Ideal) c2)
      (k0_pay22 (F := Ideal) (restB x c0) (k0_pay10 (F := Ideal) x (diffB x c0) c1) c2) (constant S2048x256 .f32 0x00000000#32)
    = lossesB x c0 c1 c2 := rfl

theorem tripleB_at (l0 l1 l2 : EReal) (s : Fin 3) : tripleB l0 l1 l2 (ix3 0 0 s) = ![l0, l1, l2] s := by
  pointwise [tripleB]
  fin_cases s <;> rfl

/-- The factor is two over three times the number of the input's entries. -/
theorem factorB_at (j : S1x1x3.Idx) : factorB j = ((1 / 3145728 : ℝ) : EReal) :=
  IdealRules.named_const.ideal_named_scalar _ _ _ _ rfl

/-- The block's sums, by rows. -/
theorem lossesB_at (x : FVec Ideal S2048x256 .f32) (c0 c1 c2 : FVec Ideal S1024x256 .f32) (h0 : ∀ k j, IsReal (c0 (ix2 k j)))
    (h1 : ∀ k j, IsReal (c1 (ix2 k j))) (h2 : ∀ k j, IsReal (c2 (ix2 k j))) (s : Fin 3) :
    lossesB x c0 c1 c2 (ix3 0 0 s)
      = (∑ i, losses (rowOf c0) (rowOf c1) (rowOf c2) (rowOf x i) s) * ((1 / 3145728 : ℝ) : EReal) := by
  unfold lossesB losses
  refine congrArg₂ (· * ·) ?_ (factorB_at _)
  rw [tripleB_at, lossB_eq _ _ h0, lossB_eq _ _ h1, lossB_eq _ _ h2]
  simp only [restB_row _ _ h1, restB_row _ _ h0]
  fin_cases s <;> rfl

end Cert.KernelIdeal.Value

end
-- ==== Proof.KernelArrays.lean ====
/- What the kernel leaves in its three result arrays: of each row, its quantized row and its indices; of each block of 2048
   rows, the three sums of squared differences. -/
module

public import proofs.«01_k».proof.Proof.KernelBlock
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.SL.Sem Cert.Rvq
open Idealize.ShloMosaic.Pipeline (Dat)
open Cert.KernelIdeal Cert.KernelIdeal.Gen

variable (m : (ℓ : Loc nD τ sig) → Buf (Elt Ideal) ℓ)

/-- The input. -/
abbrev xA (c : Dev nD) : FVec Ideal S8192x256 .f32 := m ((c : Thread nD τ).loc main_arg0)
/-- The first codebook. -/
abbrev c0A (c : Dev nD) : FVec Ideal S1024x256 .f32 := m ((c : Thread nD τ).loc main_arg1)
/-- The second codebook. -/
abbrev c1A (c : Dev nD) : FVec Ideal S1024x256 .f32 := m ((c : Thread nD τ).loc main_arg2)
/-- The third codebook. -/
abbrev c2A (c : Dev nD) : FVec Ideal S1024x256 .f32 := m ((c : Thread nD τ).loc main_arg3)
/-- The gate's matrix. -/
abbrev wA (c : Dev nD) : FVec Ideal S256x8 .f32 := m ((c : Thread nD τ).loc main_arg4)
/-- The gate's bias. -/
abbrev bA (c : Dev nD) : FVec Ideal S8 .f32 := m ((c : Thread nD τ).loc main_arg5)

/-- Every window's block index, at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0, 0] :=
  (by decide +kernel : ∀ t : Fin grid0.N, _)

/-- There are four points. -/
theorem lt_four (t : Fin cfg0.N) : t.val < 4 := t.isLt

/-- Row `i` of block `t`, among all rows. -/
def rowAt (t : Fin cfg0.N) (i : Fin 2048) : Fin 8192 := ⟨t.val * 2048 + i.val, by have := lt_four t; omega⟩

theorem iblk0_row (c : Dev nD) (t : Fin cfg0.N) (i : Fin 2048) :
    rowOf (show FVec Ideal S2048x256 .f32 from iblk m c 0 t) i = rowOf (xA m c) (rowAt t i) := by
  funext j
  unfold rowOf rowAt
  blk_ext [iblk, V, idx t]

theorem iblk1 (c : Dev nD) (t : Fin cfg0.N) : iblk m c 1 t = c0A m c := by blk_ext! [iblk, V, idx t]
theorem iblk2 (c : Dev nD) (t : Fin cfg0.N) : iblk m c 2 t = c1A m c := by blk_ext! [iblk, V, idx t]
theorem iblk3 (c : Dev nD) (t : Fin cfg0.N) : iblk m c 3 t = c2A m c := by blk_ext! [iblk, V, idx t]
theorem iblk4 (c : Dev nD) (t : Fin cfg0.N) : iblk m c 4 t = wA m c := by blk_ext! [iblk, V, idx t]

/-- The bias as the kernel takes it: one row. -/
theorem entry_bias (c : Dev nD) : V m c main_v0 = shapeCast S1x8 (bA m c) shapeCasts_S8_S1x8 := by
  entry_read
  rfl

theorem iblk5 (c : Dev nD) (t : Fin cfg0.N) : iblk m c 5 t = V m c main_v0 := by blk_ext! [iblk, idx t]

theorem iblk5_row (c : Dev nD) (t : Fin cfg0.N) :
    rowOf (show FVec Ideal S1x8 .f32 from iblk m c 5 t) 0 = fun e => bA m c (ix1 e) := by
  funext e
  rw [iblk5, entry_bias]
  unfold rowOf
  pointwise

/-- The three codebooks are finite. -/
def Finite3 (c : Dev nD) : Prop :=
  (∀ k j, IsReal (c0A m c (ix2 k j))) ∧ (∀ k j, IsReal (c1A m c (ix2 k j))) ∧ ∀ k j, IsReal (c2A m c (ix2 k j))

/-- The quantized rows. -/
def quantA (c : Dev nD) : FVec Ideal S8192x256 .f32 := fun j =>
  quant (rowOf (c0A m c)) (rowOf (c1A m c)) (rowOf (c2A m c)) (rowOf (xA m c) (j 0)) (j 1)

/-- The rows' indices. -/
def codesA (c : Dev nD) : IVec S8192x4 32 := fun j =>
  codes (rowOf (c0A m c)) (rowOf (c1A m c)) (rowOf (c2A m c)) (rowOf (wA m c)) (fun e => bA m c (ix1 e)) (rowOf (xA m c) (j 0)) (j 1)

/-- The blocks' sums of squared differences, each times the factor of the mean loss. -/
def lossesA (c : Dev nD) : FVec Ideal S4x1x3 .f32 := fun j =>
  (∑ i : Fin 2048, losses (rowOf (c0A m c)) (rowOf (c1A m c)) (rowOf (c2A m c))
    (rowOf (xA m c) ⟨(j 0).val * 2048 + i.val, by have : (j 0).val < 4 := (j 0).isLt; omega⟩) (j 2)) * ((1 / 3145728 : ℝ) : EReal)

theorem final6 (c : Dev nD) (h : Finite3 m c) : (dats m 0 c).arrAt 6 cfg0.N = quantA m c := by
  refine (dats m 0 c).arrAt_eq_of_covers 6 _ (by decide +kernel) fun t _ y => ?_
  blk_simp
  rw [after0_6]; unfold_out out0_6; frame_out
  refine (congrFun (quantB_eq (iblk m c 0 t) (iblk m c 1 t) (iblk m c 2 t) (iblk m c 3 t)) y).trans ?_
  idx_vars y
  have e : ((cfg0.win 6).blk t).view.emb (ix2 y0 y1) = ix2 (rowAt t y0) y1 := by
    unfold rowAt
    blk_ext [idx t]
  refine Eq.trans ?_ (congrArg _ e.symm)
  rw [iblk1, iblk2, iblk3]
  refine (quantB_at _ _ _ _ h.1 h.2.1 h.2.2 y0 y1).trans ?_
  rw [iblk0_row]
  rfl

theorem final7 (c : Dev nD) (h : Finite3 m c) : (dats m 0 c).arrAt 7 cfg0.N = codesA m c := by
  refine (dats m 0 c).arrAt_eq_of_covers 7 _ (by decide +kernel) fun t _ y => ?_
  blk_simp
  rw [after0_7]; unfold_out out0_7; frame_out
  refine (congrFun (codesB_eq (iblk m c 0 t) (iblk m c 1 t) (iblk m c 2 t) (iblk m c 3 t) (iblk m c 4 t) (iblk m c 5 t)) y).trans ?_
  idx_vars y
  have e : ((cfg0.win 7).blk t).view.emb (ix2 y0 y1) = ix2 (rowAt t y0) y1 := by
    unfold rowAt
    blk_ext [idx t]
  refine Eq.trans ?_ (congrArg _ e.symm)
  rw [iblk1, iblk2, iblk3, iblk4]
  refine (codesB_at _ _ _ _ _ _ h.1 h.2.1 y0 y1).trans ?_
  rw [iblk0_row, iblk5_row]
  rfl

theorem final8 (c : Dev nD) (h : Finite3 m c) : (dats m 0 c).arrAt 8 cfg0.N = lossesA m c := by
  refine (dats m 0 c).arrAt_eq_of_covers 8 _ (by decide +kernel) fun t _ y => ?_
  blk_simp
  rw [after0_8]; unfold_out out0_8; frame_out
  refine (congrFun (lossesB_eq (iblk m c 0 t) (iblk m c 1 t) (iblk m c 2 t) (iblk m c 3 t)) y).trans ?_
  idx_vars y
  have e : ((cfg0.win 8).blk t).view.emb (ix3 y0 y1 y2) = ix3 (⟨t.val, lt_four t⟩ : Fin 4) (0 : Fin 1) y2 := by
    blk_ext [idx t]
  refine Eq.trans ?_ (congrArg _ e.symm)
  rw [iblk1, iblk2, iblk3]
  obtain rfl : y0 = 0 := Subsingleton.elim _ _
  obtain rfl : y1 = 0 := Subsingleton.elim _ _
  refine (lossesB_at _ _ _ _ h.1 h.2.1 h.2.2 y2).trans ?_
  simp only [iblk0_row]
  rfl

end Cert.KernelIdeal.Value

end
-- ==== Proof.MeanLoss.lean ====
/- The mean loss two ways: block sums, each scaled, against a mean of means. On finite losses they are equal. -/
module

public import proofs.«01_k».proof.Proof.Facts

@[expose] public section

noncomputable section

namespace Cert.Rvq

open Idealize.ShloMosaic

theorem IsReal.sub {x y : EReal} (hx : IsReal x) (hy : IsReal y) : IsReal (x - y) := by
  obtain ⟨r, rfl⟩ := hx; obtain ⟨s, rfl⟩ := hy
  exact ⟨r - s, (EReal.coe_sub r s).symm⟩

/-- On a finite codebook and a finite row the stage's difference is finite. -/
theorem isReal_diff {cb : Book} {r : Row} (hc : ∀ k j, IsReal (cb k j)) (hr : ∀ j, IsReal (r j)) (j : Fin 256) : IsReal (diff cb r j) :=
  (hc _ j).sub (hr j)

theorem isReal_rest {cb : Book} {r : Row} (hc : ∀ k j, IsReal (cb k j)) (hr : ∀ j, IsReal (r j)) (j : Fin 256) : IsReal (rest cb r j) :=
  (hr j).sub ((hr j).add (isReal_diff hc hr j))

theorem isReal_sqSum {cb : Book} {r : Row} (hc : ∀ k j, IsReal (cb k j)) (hr : ∀ j, IsReal (r j)) : IsReal (sqSum cb r) :=
  isReal_sum _ _ fun j => (isReal_diff hc hr j).mul (isReal_diff hc hr j)

/-- The three stages' losses of a finite row are finite. -/
theorem isReal_losses {c0 c1 c2 : Book} {r : Row} (h0 : ∀ k j, IsReal (c0 k j)) (h1 : ∀ k j, IsReal (c1 k j)) (h2 : ∀ k j, IsReal (c2 k j))
    (hr : ∀ j, IsReal (r j)) (s : Fin 3) : IsReal (losses c0 c1 c2 r s) := by
  unfold losses
  fin_cases s
  · exact isReal_sqSum h0 hr
  · exact isReal_sqSum h1 (isReal_rest h0 hr)
  · exact isReal_sqSum h2 (isReal_rest h1 (isReal_rest h0 hr))

/-- A sum of real numbers, among the extended reals. -/
theorem coe_sum {ι : Type} (S : Finset ι) (f : ι → ℝ) : ((∑ i ∈ S, f i : ℝ) : EReal) = ∑ i ∈ S, (f i : EReal) :=
  map_sum (⟨⟨Real.toEReal, rfl⟩, EReal.coe_add⟩ : ℝ →+ EReal) f S

/-- The number of row `i` of block `t`. -/
def rowNo (t : Fin 4) (i : Fin 2048) : Fin 8192 := ⟨t.val * 2048 + i.val, by omega⟩

/-- The mean of the three stages' losses, each stage's the mean over all entries, taken twice. -/
def meanOf (f : Fin 8192 → Fin 3 → EReal) : EReal :=
  Ideal.div (∑ s, (Ideal.div (∑ i, f i s) ((2097152 : ℝ) : EReal) + 1 * Ideal.div (∑ i, f i s) ((2097152 : ℝ) : EReal))) ((3 : ℝ) : EReal)

/-- The scaled block sums of finite losses add up to that mean. -/
theorem blocks_eq_meanOf (f : Fin 8192 → Fin 3 → EReal) (hf : ∀ i s, IsReal (f i s)) :
    ∑ t : Fin 4, ∑ s, (∑ i, f (rowNo t i) s) * ((1 / 3145728 : ℝ) : EReal) = meanOf f := by
  choose g hg using hf
  have hr (s : Fin 3) : ∑ t : Fin 4, ∑ i, g (rowNo t i) s = ∑ i, g i s := by
    rw [← Fintype.sum_prod_type', ← Equiv.sum_comp (finProdFinEquiv (m := 4) (n := 2048)) (fun i : Fin 8192 => g i s)]
    refine Finset.sum_congr rfl fun p _ => congrArg (fun i => g i s) (Fin.ext ?_)
    simp [rowNo, finProdFinEquiv]
    ring
  unfold meanOf
  simp only [hg, Ideal.div_coe (show (2097152 : ℝ) ≠ 0 by norm_num), Ideal.div_coe (show (3 : ℝ) ≠ 0 by norm_num), ← coe_sum, ← EReal.coe_mul,
    one_mul, ← EReal.coe_add, EReal.coe_eq_coe_iff]
  rw [Finset.sum_comm]
  simp only [← Finset.sum_mul, hr, ← mul_add]
  ring

end Cert.Rvq

end
-- ==== Proof.KernelRun.lean ====
/- The kernel's run over the extended reals: what its three results end holding, when the codebooks are finite. -/
module

public import proofs.«01_k».proof.Proof.KernelArrays
public import proofs.«01_k».proof.Proof.MeanLoss

@[expose] public section

set_option maxRecDepth 16384

noncomputable section

namespace Cert.KernelIdeal.Value

open Idealize.ShloMosaic Idealize.ShloMosaic.TcCoe Idealize.SL.Sem Cert.Rvq
open Idealize.ShloMosaic.Pipeline (Dat)
open Cert.KernelIdeal Cert.KernelIdeal.Gen

variable (m : (ℓ : Loc nD τ sig) → Buf (Elt Ideal) ℓ) (ρ : Dev nD → PrngReg)

/-- The mean loss: the sum of the blocks' scaled sums. -/
def lossA (c : Dev nD) : FVec Ideal S_ .f32 := fun _ =>
  ∑ t : Fin 4, ∑ s : Fin 3, (∑ i : Fin 2048, losses (rowOf (c0A m c)) (rowOf (c1A m c)) (rowOf (c2A m c)) (rowOf (xA m c) (rowNo t i)) s)
    * ((1 / 3145728 : ℝ) : EReal)

/-- The sum of the blocks' losses. -/
theorem sum_lossesA (c : Dev nD) :
    Host.reduceAdd (lossesA m c) (constant S_ .f32 0x00000000#32) reducesTo_S4x1x3_S_d0_1_2 h_S_ = lossA m c := by
  funext z
  obtain rfl : z = ix0 := Subsingleton.elim _ _
  unfold lossA
  pointwise
  exact Finset.sum_congr rfl fun t _ => Fin.sum_univ_one _

/-- What the operations after the kernel leave in the mean's buffer. -/
theorem tail_mean (c : Dev nD) : Pipeline.afterTail₀ cfgs (dats m) 0 (V0 m) [hostOps1] c main_v2
    = Host.reduceAdd (show FVec Ideal S4x1x3 .f32 from (dats m 0 c).arrAt 8 cfg0.N) (constant S_ .f32 0x00000000#32) reducesTo_S4x1x3_S_d0_1_2 h_S_ := by
  unfold Pipeline.afterTail₀
  have hinj : Function.Injective (Pipeline.arrRef spec0) := by decide
  rw [← Pipeline.withArrays_arr spec0 hinj c (V0 m c) (fun w => (dats m 0 c).arrAt w (cfgs 0).N) 8]
  simp only [hostOps1, List.flatten_cons, List.flatten_nil, List.append_nil]
  after_results

/-- The kernel's results. -/
theorem run_results (h : ∀ c, Finite3 m c) : θ_run defs (onTc (τ := τ) (main (F := Ideal))) ⟨m, fun _ => 0, ρ⟩ fun r => ∀ c : Dev nD,
    r.2.mem ((c : Thread nD τ).loc main_v1_0) = quantA m c
    ∧ r.2.mem ((c : Thread nD τ).loc main_v2) = lossA m c
    ∧ r.2.mem ((c : Thread nD τ).loc main_v1_1) = codesA m c :=
  (θ_run defs _ _).mono (fun _ hr c => ⟨((hr c).1 6).trans (final6 m c (h c)),
      ((hr c).2 main_v2 (Pipeline.mem_restRefs_of main_v2 (by decide) (by decide))).trans
        ((tail_mean m c).trans ((by rw [final8 m c (h c)] : _ = _).trans (sum_lossesA m c))),
      ((hr c).1 7).trans (final7 m c (h c))⟩) (run_main m ρ)

end Cert.KernelIdeal.Value

end
-- ==== Proof.RefRun.lean ====
/- The reference's run: its operations as one list, the gate's first, then those of the three stages, then the rest;
   the program is that list run in order, so every buffer ends holding what the list leaves there. -/
module

public import proofs.«01_k».proof.Defs
public import proofs.«01_k».proof.Proof.Gen.ReferenceIdeal
public import Idealize.ShloMosaic.Lib.StableHlo.Run
public import Idealize.ShloMosaic.Lib.StableHlo.RunHlo
public import Idealize.ShloMosaic.Lib.Claim

@[expose] public section

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

/-- The buffers of one stage's values, the two calls' among them. -/
structure Stage where
  rr : TRef sig ⟨S8192x256, .f32⟩
  rrZero : TRef sig ⟨S_, .f32⟩
  rrSum : TRef sig ⟨S8192, .f32⟩
  rrCol : TRef sig ⟨S8192x1, .f32⟩
  two : TRef sig ⟨S_, .f32⟩
  twos : TRef sig ⟨S8192x256, .f32⟩
  twoR : TRef sig ⟨S8192x256, .f32⟩
  cbT : TRef sig ⟨S256x1024, .f32⟩
  rc : TRef sig ⟨S8192x1024, .f32⟩
  rrAll : TRef sig ⟨S8192x1024, .f32⟩
  cross : TRef sig ⟨S8192x1024, .f32⟩
  cc : TRef sig ⟨S1024x256, .f32⟩
  ccZero : TRef sig ⟨S_, .f32⟩
  ccSum : TRef sig ⟨S1024, .f32⟩
  ccRow : TRef sig ⟨S1x1024, .f32⟩
  ccAll : TRef sig ⟨S8192x1024, .f32⟩
  d : TRef sig ⟨S8192x1024, .f32⟩
  am : fn_argmin.Bufs
  tk : fn_take.Bufs
  e1 : TRef sig ⟨S8192x256, .f32⟩
  s1 : TRef sig ⟨S8192x256, .f32⟩
  z1 : TRef sig ⟨S_, .f32⟩
  t1 : TRef sig ⟨S_, .f32⟩
  n1 : TRef sig ⟨S_, .f32⟩
  l1 : TRef sig ⟨S_, .f32⟩
  e2 : TRef sig ⟨S8192x256, .f32⟩
  s2 : TRef sig ⟨S8192x256, .f32⟩
  z2 : TRef sig ⟨S_, .f32⟩
  t2 : TRef sig ⟨S_, .f32⟩
  n2 : TRef sig ⟨S_, .f32⟩
  l2 : TRef sig ⟨S_, .f32⟩
  one : TRef sig ⟨S_, .f32⟩
  w2 : TRef sig ⟨S_, .f32⟩
  loss : TRef sig ⟨S_, .f32⟩
  e3 : TRef sig ⟨S8192x256, .f32⟩
  took : TRef sig ⟨S8192x256, .f32⟩
  rest : TRef sig ⟨S8192x256, .f32⟩
  xq : TRef sig ⟨S8192x256, .f32⟩

/-- Stage 1's buffers. -/
abbrev stage1 : Stage where
  rr := .of main_v16
  rrZero := .of main_cst_3
  rrSum := .of main_v17
  rrCol := .of main_v18
  two := .of main_cst_4
  twos := .of main_v19
  twoR := .of main_v20
  cbT := .of main_v21
  rc := .of main_v22
  rrAll := .of main_v23
  cross := .of main_v24
  cc := .of main_v25
  ccZero := .of main_cst_5
  ccSum := .of main_v26
  ccRow := .of main_v27
  ccAll := .of main_v28
  d := .of main_v29
  am := main_call0
  tk := main_call1
  e1 := .of main_v32
  s1 := .of main_v33
  z1 := .of main_cst_6
  t1 := .of main_v34
  n1 := .of main_cst_7
  l1 := .of main_v35
  e2 := .of main_v36
  s2 := .of main_v37
  z2 := .of main_cst_8
  t2 := .of main_v38
  n2 := .of main_cst_9
  l2 := .of main_v39
  one := .of main_cst_10
  w2 := .of main_v40
  loss := .of main_v41
  e3 := .of main_v42
  took := .of main_v43
  rest := .of main_v44
  xq := .of main_v45

/-- Stage 2's buffers. -/
abbrev stage2 : Stage where
  rr := .of main_v46
  rrZero := .of main_cst_11
  rrSum := .of main_v47
  rrCol := .of main_v48
  two := .of main_cst_12
  twos := .of main_v49
  twoR := .of main_v50
  cbT := .of main_v51
  rc := .of main_v52
  rrAll := .of main_v53
  cross := .of main_v54
  cc := .of main_v55
  ccZero := .of main_cst_13
  ccSum := .of main_v56
  ccRow := .of main_v57
  ccAll := .of main_v58
  d := .of main_v59
  am := main_call2
  tk := main_call3
  e1 := .of main_v62
  s1 := .of main_v63
  z1 := .of main_cst_14
  t1 := .of main_v64
  n1 := .of main_cst_15
  l1 := .of main_v65
  e2 := .of main_v66
  s2 := .of main_v67
  z2 := .of main_cst_16
  t2 := .of main_v68
  n2 := .of main_cst_17
  l2 := .of main_v69
  one := .of main_cst_18
  w2 := .of main_v70
  loss := .of main_v71
  e3 := .of main_v72
  took := .of main_v73
  rest := .of main_v74
  xq := .of main_v75

/-- Stage 3's buffers. -/
abbrev stage3 : Stage where
  rr := .of main_v76
  rrZero := .of main_cst_19
  rrSum := .of main_v77
  rrCol := .of main_v78
  two := .of main_cst_20
  twos := .of main_v79
  twoR := .of main_v80
  cbT := .of main_v81
  rc := .of main_v82
  rrAll := .of main_v83
  cross := .of main_v84
  cc := .of main_v85
  ccZero := .of main_cst_21
  ccSum := .of main_v86
  ccRow := .of main_v87
  ccAll := .of main_v88
  d := .of main_v89
  am := main_call4
  tk := main_call5
  e1 := .of main_v92
  s1 := .of main_v93
  z1 := .of main_cst_22
  t1 := .of main_v94
  n1 := .of main_cst_23
  l1 := .of main_v95
  e2 := .of main_v96
  s2 := .of main_v97
  z2 := .of main_cst_24
  t2 := .of main_v98
  n2 := .of main_cst_25
  l2 := .of main_v99
  one := .of main_cst_26
  w2 := .of main_v100
  loss := .of main_v101
  e3 := .of main_v102
  took := .of main_v103
  rest := .of main_v104
  xq := .of main_v105

/-- The operations of the first least index along the rows. -/
def argminOps (x : TRef sig ⟨S8192x1024, .f32⟩) (φ : fn_argmin.Bufs) : List (HloOp τ sig (Elt F)) := [
  TRef.nullary φ.v0 (iotaInDim S8192x1024 32 1),
  TRef.nullary φ.cst (constant S_ .f32 0x7F800000#32),
  TRef.nullary φ.c (constantI S_ 32 0#32),
  TRef.quaternary x φ.v0 φ.cst φ.c φ.v1_0 (fun x y u v j => (Host.argReduce reducer_argmin_f32_i32 x y u v reducesTo_S8192x1024_S8192_d1 h_S_ j).1),
  TRef.quaternary x φ.v0 φ.cst φ.c φ.v1_1 (fun x y u v j => (Host.argReduce reducer_argmin_f32_i32 x y u v reducesTo_S8192x1024_S8192_d1 h_S_ j).2)]

/-- The operations that take the rows at given indices. -/
def takeOps (x : TRef sig ⟨S1024x256, .f32⟩) (i : TRef sig ⟨S8192, .i32⟩) (φ : fn_take.Bufs) : List (HloOp τ sig (Elt F)) := [
  TRef.nullary φ.c (constantI S_ 32 0#32),
  TRef.unary φ.c φ.v0 (broadcastInDim S8192 ![] bcast_S_S8192),
  TRef.binary i φ.v0 φ.v1 (cmpi .slt),
  TRef.nullary φ.c_0 (constantI S_ 32 1024#32),
  TRef.unary φ.c_0 φ.v2 (broadcastInDim S8192 ![] bcast_S_S8192),
  TRef.binary i φ.v2 φ.v3 addi,
  TRef.ternary φ.v1 φ.v3 i φ.call0.v0 select,
  TRef.unary φ.call0.v0 φ.v5 (broadcastInDim S8192x1 ![0] bcast_S8192_S8192x1_0),
  TRef.nullary φ.c_1 (constantI S1 32 1023#32),
  TRef.nullary φ.c_2 (constantI S_ 32 0#32),
  TRef.unary φ.c_2 φ.v6 (broadcastInDim S8192x1 ![] bcast_S_S8192x1),
  TRef.binary φ.v5 φ.v6 φ.v7 (cmpi .sge),
  TRef.unary φ.c_1 φ.v8 (broadcastInDim S1x1 ![1] bcast_S1_S1x1_1),
  TRef.unary φ.v8 φ.v9 (broadcastInDim S8192x1 ![0, 1] bcast_S1x1_S8192x1_0_1),
  TRef.binary φ.v5 φ.v9 φ.v10 (cmpi .sle),
  TRef.binary φ.v7 φ.v10 φ.v11 andi,
  TRef.nullary φ.c_3 (constantI S_ 1 1#1),
  TRef.binary φ.v11 φ.c_3 φ.v12 (fun x v => Host.reduce IntOp.andi x v reducesTo_S8192x1_S8192_d1 h_S_),
  TRef.binary x φ.v5 φ.v13 (fun x i => Host.gather gather_S1024x256_S8192x1_S8192x256_1_0_n_n_0_1_1256 x i),
  TRef.unary φ.v12 φ.v14 (broadcastInDim S8192x256 ![0] bcast_S8192_S8192x256_0),
  TRef.nullary φ.cst (constant S_ .f32 0x7FC00000#32),
  TRef.unary φ.cst φ.v15 (broadcastInDim S8192x256 ![] bcast_S_S8192x256),
  TRef.ternary φ.v14 φ.v13 φ.v15 φ.v16 select]

/-- The operations of the squared distances of the rows `r` to the rows of `cb`. -/
def distOps (r : TRef sig ⟨S8192x256, .f32⟩) (cb : TRef sig ⟨S1024x256, .f32⟩) (φ : Stage) : List (HloOp τ sig (Elt F)) := [
  TRef.binary r r φ.rr mulf,
  TRef.nullary φ.rrZero (constant S_ .f32 0x00000000#32),
  TRef.binary φ.rr φ.rrZero φ.rrSum (fun x v => Host.reduceAdd x v reducesTo_S8192x256_S8192_d1 h_S_),
  TRef.unary φ.rrSum φ.rrCol (broadcastInDim S8192x1 ![0] bcast_S8192_S8192x1_0),
  TRef.nullary φ.two (constant S_ .f32 0x40000000#32),
  TRef.unary φ.two φ.twos (broadcastInDim S8192x256 ![] bcast_S_S8192x256),
  TRef.binary φ.twos r φ.twoR mulf,
  TRef.unary cb φ.cbT (transpose S256x1024 [1, 0] · transposes_S1024x256_S256x1024_1_0),
  TRef.binary φ.twoR φ.cbT φ.rc (fun l r => Host.dotGeneral dot_S8192x256_S256x1024_S8192x1024_1_0_0_1_n_n none l r),
  TRef.unary φ.rrCol φ.rrAll (broadcastInDim S8192x1024 ![0, 1] bcast_S8192x1_S8192x1024_0_1),
  TRef.binary φ.rrAll φ.rc φ.cross subf,
  TRef.binary cb cb φ.cc mulf,
  TRef.nullary φ.ccZero (constant S_ .f32 0x00000000#32),
  TRef.binary φ.cc φ.ccZero φ.ccSum (fun x v => Host.reduceAdd x v reducesTo_S1024x256_S1024_d1 h_S_),
  TRef.unary φ.ccSum φ.ccRow (broadcastInDim S1x1024 ![1] bcast_S1024_S1x1024_1),
  TRef.unary φ.ccRow φ.ccAll (broadcastInDim S8192x1024 ![0, 1] bcast_S1x1024_S8192x1024_0_1),
  TRef.binary φ.cross φ.ccAll φ.d addf]

/-- The operations after a stage has its codebook rows `q`: the loss, what is left, and the quantized sum. -/
def updateOps (r xq q : TRef sig ⟨S8192x256, .f32⟩) (φ : Stage) : List (HloOp τ sig (Elt F)) := [
  TRef.binary q r φ.e1 subf,
  TRef.binary φ.e1 φ.e1 φ.s1 mulf,
  TRef.nullary φ.z1 (constant S_ .f32 0x00000000#32),
  TRef.binary φ.s1 φ.z1 φ.t1 (fun x v => Host.reduceAdd x v reducesTo_S8192x256_S_d0_1 h_S_),
  TRef.nullary φ.n1 (constant S_ .f32 0x4A000000#32),
  TRef.binary φ.t1 φ.n1 φ.l1 Host.divf,
  TRef.binary q r φ.e2 subf,
  TRef.binary φ.e2 φ.e2 φ.s2 mulf,
  TRef.nullary φ.z2 (constant S_ .f32 0x00000000#32),
  TRef.binary φ.s2 φ.z2 φ.t2 (fun x v => Host.reduceAdd x v reducesTo_S8192x256_S_d0_1 h_S_),
  TRef.nullary φ.n2 (constant S_ .f32 0x4A000000#32),
  TRef.binary φ.t2 φ.n2 φ.l2 Host.divf,
  TRef.nullary φ.one (constant S_ .f32 0x3F800000#32),
  TRef.binary φ.one φ.l2 φ.w2 mulf,
  TRef.binary φ.l1 φ.w2 φ.loss addf,
  TRef.binary q r φ.e3 subf,
  TRef.binary r φ.e3 φ.took addf,
  TRef.binary r φ.took φ.rest subf,
  TRef.binary xq φ.took φ.xq addf]

/-- One stage's operations. -/
def stageOps (r : TRef sig ⟨S8192x256, .f32⟩) (cb : TRef sig ⟨S1024x256, .f32⟩) (xq : TRef sig ⟨S8192x256, .f32⟩) (φ : Stage) :
    List (HloOp τ sig (Elt F)) :=
  distOps r cb φ ++ (argminOps φ.d φ.am ++ (takeOps cb φ.am.v1_1 φ.tk ++ updateOps r xq φ.tk.v16 φ))

/-- The gate's operations, and the zeros the quantized sum starts at. -/
def gateOps : List (HloOp τ sig (Elt F)) := [
  binary main_arg0 main_arg4 main_v0 ((fun l r => Host.dotGeneral dot_S8192x256_S256x8_S8192x8_1_0_0_1_n_n none l r) : (⟨S8192x256, .f32⟩ : BufTy).Contents (Elt F) → (⟨S256x8, .f32⟩ : BufTy).Contents (Elt F) → (⟨S8192x8, .f32⟩ : BufTy).Contents (Elt F)),
  unary main_arg5 main_v1 (broadcastInDim S1x8 ![1] bcast_S8_S1x8_1 : (⟨S8, .f32⟩ : BufTy).Contents (Elt F) → (⟨S1x8, .f32⟩ : BufTy).Contents (Elt F)),
  unary main_v1 main_v2 (broadcastInDim S8192x8 ![0, 1] bcast_S1x8_S8192x8_0_1 : (⟨S1x8, .f32⟩ : BufTy).Contents (Elt F) → (⟨S8192x8, .f32⟩ : BufTy).Contents (Elt F)),
  binary main_v0 main_v2 main_v3 (addf : (⟨S8192x8, .f32⟩ : BufTy).Contents (Elt F) → (⟨S8192x8, .f32⟩ : BufTy).Contents (Elt F) → (⟨S8192x8, .f32⟩ : BufTy).Contents (Elt F)),
  nullary main_cst (constant S_ .f32 0xFF800000#32),
  binary main_v3 main_cst main_v4 ((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)),
  nullary main_cst_0 (constant S_ .f32 0xFF800000#32),
  unary main_cst_0 main_v5 (broadcastInDim S8192 ![] bcast_S_S8192 : (⟨S_, .f32⟩ : BufTy).Contents (Elt F) → (⟨S8192, .f32⟩ : BufTy).Contents (Elt F)),
  binary main_v5 main_v4 main_v6 (maximumf : (⟨S8192, .f32⟩ : BufTy).Contents (Elt F) → (⟨S8192, .f32⟩ : BufTy).Contents (Elt F) → (⟨S8192, .f32⟩ : BufTy).Contents (Elt F)),
  unary main_v6 main_v7 (broadcastInDim S8192x1 ![0] bcast_S8192_S8192x1_0 : (⟨S8192, .f32⟩ : BufTy).Contents (Elt F) → (⟨S8192x1, .f32⟩ : BufTy).Contents (Elt F)),
  unary main_v7 main_v8 (broadcastInDim S8192x8 ![0, 1] bcast_S8192x1_S8192x8_0_1 : (⟨S8192x1, .f32⟩ : BufTy).Contents (Elt F) → (⟨S8192x8, .f32⟩ : BufTy).Contents (Elt F)),
  binary main_v3 main_v8 main_v9 (subf : (⟨S8192x8, .f32⟩ : BufTy).Contents (Elt F) → (⟨S8192x8, .f32⟩ : BufTy).Contents (Elt F) → (⟨S8192x8, .f32⟩ : BufTy).Contents (Elt F)),
  unary main_v9 main_v10 (Host.exp : (⟨S8192x8, .f32⟩ : BufTy).Contents (Elt F) → (⟨S8192x8, .f32⟩ : BufTy).Contents (Elt F)),
  nullary main_cst_1 (constant S_ .f32 0x00000000#32),
  binary main_v10 main_cst_1 main_v11 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
  unary main_v11 main_v12 (broadcastInDim S8192x1 ![0] bcast_S8192_S8192x1_0 : (⟨S8192, .f32⟩ : BufTy).Contents (Elt F) → (⟨S8192x1, .f32⟩ : BufTy).Contents (Elt F)),
  unary main_v12 main_v13 (broadcastInDim S8192x8 ![0, 1] bcast_S8192x1_S8192x8_0_1 : (⟨S8192x1, .f32⟩ : BufTy).Contents (Elt F) → (⟨S8192x8, .f32⟩ : BufTy).Contents (Elt F)),
  binary main_v10 main_v13 main_v14 (Host.divf : (⟨S8192x8, .f32⟩ : BufTy).Contents (Elt F) → (⟨S8192x8, .f32⟩ : BufTy).Contents (Elt F) → (⟨S8192x8, .f32⟩ : BufTy).Contents (Elt F)),
  nullary main_cst_2 (constant S_ .f32 0x00000000#32),
  unary main_cst_2 main_v15 (broadcastInDim S8192x256 ![] bcast_S_S8192x256 : (⟨S_, .f32⟩ : BufTy).Contents (Elt F) → (⟨S8192x256, .f32⟩ : BufTy).Contents (Elt F))]

/-- The operations of the first greatest index along the rows. -/
def argmaxOps (x : TRef sig ⟨S8192x8, .f32⟩) (φ : fn_argmax.Bufs) : List (HloOp τ sig (Elt F)) := [
  TRef.nullary φ.v0 (iotaInDim S8192x8 32 1),
  TRef.nullary φ.cst (constant S_ .f32 0xFF800000#32),
  TRef.nullary φ.c (constantI S_ 32 0#32),
  TRef.quaternary x φ.v0 φ.cst φ.c φ.v1_0 (fun x y u v j => (Host.argReduce reducer_argmax_f32_i32 x y u v reducesTo_S8192x8_S8192_d1 h_S_ j).1),
  TRef.quaternary x φ.v0 φ.cst φ.c φ.v1_1 (fun x y u v j => (Host.argReduce reducer_argmax_f32_i32 x y u v reducesTo_S8192x8_S8192_d1 h_S_ j).2)]

/-- The last operations: the mean of the three losses, and the four columns of indices. -/
def endOps : List (HloOp τ sig (Elt F)) := [
  unary main_v41 main_v107 (broadcastInDim S1 ![] bcast_S_S1 : (⟨S_, .f32⟩ : BufTy).Contents (Elt F) → (⟨S1, .f32⟩ : BufTy).Contents (Elt F)),
  unary main_v71 main_v108 (broadcastInDim S1 ![] bcast_S_S1 : (⟨S_, .f32⟩ : BufTy).Contents (Elt F) → (⟨S1, .f32⟩ : BufTy).Contents (Elt F)),
  unary main_v101 main_v109 (broadcastInDim S1 ![] bcast_S_S1 : (⟨S_, .f32⟩ : BufTy).Contents (Elt F) → (⟨S1, .f32⟩ : BufTy).Contents (Elt F)),
  nary ![main_v107, main_v108, main_v109] main_v110 (fun u => (concatenate S3 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩] concatenates_S1_S1_S1_S3_d0 : (⟨S3, .f32⟩ : BufTy).Contents (Elt F))),
  nullary main_cst_27 (constant S_ .f32 0x00000000#32),
  binary main_v110 main_cst_27 main_v111 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
  nullary main_cst_28 (constant S_ .f32 0x40400000#32),
  binary main_v111 main_cst_28 main_v112 (Host.divf : (⟨S_, .f32⟩ : BufTy).Contents (Elt F) → (⟨S_, .f32⟩ : BufTy).Contents (Elt F) → (⟨S_, .f32⟩ : BufTy).Contents (Elt F)),
  unary main_v30 main_v113 (broadcastInDim S8192x1 ![0] bcast_S8192_S8192x1_0 : (⟨S8192, .i32⟩ : BufTy).Contents (Elt F) → (⟨S8192x1, .i32⟩ : BufTy).Contents (Elt F)),
  unary main_v60 main_v114 (broadcastInDim S8192x1 ![0] bcast_S8192_S8192x1_0 : (⟨S8192, .i32⟩ : BufTy).Contents (Elt F) → (⟨S8192x1, .i32⟩ : BufTy).Contents (Elt F)),
  unary main_v90 main_v115 (broadcastInDim S8192x1 ![0] bcast_S8192_S8192x1_0 : (⟨S8192, .i32⟩ : BufTy).Contents (Elt F) → (⟨S8192x1, .i32⟩ : BufTy).Contents (Elt F)),
  unary main_v106 main_v116 (broadcastInDim S8192x1 ![0] bcast_S8192_S8192x1_0 : (⟨S8192, .i32⟩ : BufTy).Contents (Elt F) → (⟨S8192x1, .i32⟩ : BufTy).Contents (Elt F)),
  nary ![main_v113, main_v114, main_v115, main_v116] main_v117 (fun u => (concatenate S8192x4 1 [⟨S8192x1, (u 0 : (⟨S8192x1, .i32⟩ : BufTy).Contents (Elt F))⟩, ⟨S8192x1, (u 1 : (⟨S8192x1, .i32⟩ : BufTy).Contents (Elt F))⟩, ⟨S8192x1, (u 2 : (⟨S8192x1, .i32⟩ : BufTy).Contents (Elt F))⟩, ⟨S8192x1, (u 3 : (⟨S8192x1, .i32⟩ : BufTy).Contents (Elt F))⟩] concatenates_S8192x1_S8192x1_S8192x1_S8192x1_S8192x4_d1 : (⟨S8192x4, .i32⟩ : BufTy).Contents (Elt F)))]

/-- The reference's operations. -/
def ops : List (HloOp τ sig (Elt F)) :=
  gateOps ++ (stageOps (.of main_arg0) (.of main_arg1) (.of main_v15) stage1
    ++ (stageOps (.of main_v44) (.of main_arg2) (.of main_v45) stage2
      ++ (stageOps (.of main_v74) (.of main_arg3) (.of main_v75) stage3 ++ (argmaxOps (.of main_v14) main_call6 ++ endOps))))

set_option maxRecDepth 65536 in
set_option maxHeartbeats 4000000 in
/-- The program is those operations in order. -/
theorem main_eq (c : Dev nD) : main (F := F) c = seq ops := by
  simp only [main, main_part0, main_part1, main_part2, fn_argmin.body, fn_where.body, fn_take.body, fn_argmax.body, ops, gateOps, stageOps,
    distOps, argminOps, takeOps, updateOps, argmaxOps, endOps, List.cons_append, List.nil_append, seq, bind_assoc, pure_bind]
  rfl

end Cert.ReferenceIdeal.Run

end
-- ==== Proof.RefArrays.lean ====
/- What the reference's operations leave in its buffers, as functions of whole arrays: the gate, one stage, and the end. -/
module

public import proofs.«01_k».proof.Proof.RefRun

@[expose] public section

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

/-- The gate's logits. -/
def logitsA (x : FVec F S8192x256 .f32) (w : FVec F S256x8 .f32) (b : FVec F S8 .f32) : FVec F S8192x8 .f32 :=
  addf (Host.dotGeneral dot_S8192x256_S256x8_S8192x8_1_0_0_1_n_n none x w)
    (broadcastInDim S8192x8 ![0, 1] bcast_S1x8_S8192x8_0_1 (broadcastInDim S1x8 ![1] bcast_S8_S1x8_1 b))

/-- A value per row, along the row. -/
def rows8 (v : FVec F S8192 .f32) : FVec F S8192x8 .f32 :=
  broadcastInDim S8192x8 ![0, 1] bcast_S8192x1_S8192x8_0_1 (broadcastInDim S8192x1 ![0] bcast_S8192_S8192x1_0 v)

/-- The exponentials of the logits less their row's greatest. -/
def expA (l : FVec F S8192x8 .f32) : FVec F S8192x8 .f32 :=
  Host.exp (subf l (rows8 (maximumf (broadcastInDim S8192 ![] bcast_S_S8192 (constant S_ .f32 0xFF800000#32))
    (Host.reduce FloatOps.maximumf l (constant S_ .f32 0xFF800000#32) reducesTo_S8192x8_S8192_d1 h_S_))))

/-- The gate's probabilities. -/
def probsA (l : FVec F S8192x8 .f32) : FVec F S8192x8 .f32 :=
  Host.divf (expA l) (rows8 (Host.reduceAdd (expA l) (constant S_ .f32 0x00000000#32) reducesTo_S8192x8_S8192_d1 h_S_))

/-- The first greatest index along each row. -/
def argmaxA (p : FVec F S8192x8 .f32) : IVec S8192 32 := fun j =>
  (Host.argReduce reducer_argmax_f32_i32 p (iotaInDim S8192x8 32 1) (constant S_ .f32 0xFF800000#32) (constantI S_ 32 0#32)
    reducesTo_S8192x8_S8192_d1 h_S_ j).2

/-- The squared distances of the rows of `r` to the rows of `cb`. -/
def distA (r : FVec F S8192x256 .f32) (cb : FVec F S1024x256 .f32) : FVec F S8192x1024 .f32 :=
  addf
    (subf
      (broadcastInDim S8192x1024 ![0, 1] bcast_S8192x1_S8192x1024_0_1 (broadcastInDim S8192x1 ![0] bcast_S8192_S8192x1_0
        (Host.reduceAdd (mulf r r) (constant S_ .f32 0x00000000#32) reducesTo_S8192x256_S8192_d1 h_S_)))
      (Host.dotGeneral dot_S8192x256_S256x1024_S8192x1024_1_0_0_1_n_n none
        (mulf (broadcastInDim S8192x256 ![] bcast_S_S8192x256 (constant S_ .f32 0x40000000#32)) r)
        (transpose S256x1024 [1, 0] cb transposes_S1024x256_S256x1024_1_0)))
    (broadcastInDim S8192x1024 ![0, 1] bcast_S1x1024_S8192x1024_0_1 (broadcastInDim S1x1024 ![1] bcast_S1024_S1x1024_1
      (Host.reduceAdd (mulf cb cb) (constant S_ .f32 0x00000000#32) reducesTo_S1024x256_S1024_d1 h_S_)))

/-- The first least index along each row. -/
def argminA (d : FVec F S8192x1024 .f32) : IVec S8192 32 := fun j =>
  (Host.argReduce reducer_argmin_f32_i32 d (iotaInDim S8192x1024 32 1) (constant S_ .f32 0x7F800000#32) (constantI S_ 32 0#32)
    reducesTo_S8192x1024_S8192_d1 h_S_ j).2

/-- The index a negative one counts from the end, as a column. -/
def wrapA (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- Whether an index lies in the codebook. -/
def insideA (i : IVec S8192x1 32) : IVec S8192 1 :=
  Host.reduce IntOp.andi
    (andi (cmpi .sge i (broadcastInDim S8192x1 ![] bcast_S_S8192x1 (constantI S_ 32 0#32)))
      (cmpi .sle i (broadcastInDim S8192x1 ![0, 1] bcast_S1x1_S8192x1_0_1 (broadcastInDim S1x1 ![1] bcast_S1_S1x1_1 (constantI S1 32 1023#32)))))
    (constantI S_ 1 1#1) reducesTo_S8192x1_S8192_d1 h_S_

/-- The codebook rows at the indices. -/
def takeA (cb : FVec F S1024x256 .f32) (i : IVec S8192 32) : FVec F S8192x256 .f32 :=
  select (broadcastInDim S8192x256 ![0] bcast_S8192_S8192x256_0 (insideA (wrapA i)))
    (Host.gather gather_S1024x256_S8192x1_S8192x256_1_0_n_n_0_1_1256 cb (wrapA i))
    (broadcastInDim S8192x256 ![] bcast_S_S8192x256 (constant S_ .f32 0x7FC00000#32))

/-- One stage's indices. -/
def idxA (r : FVec F S8192x256 .f32) (cb : FVec F S1024x256 .f32) : IVec S8192 32 := argminA (distA r cb)

/-- One stage's difference. -/
def diffA (r : FVec F S8192x256 .f32) (cb : FVec F S1024x256 .f32) : FVec F S8192x256 .f32 := subf (takeA cb (idxA r cb)) r

/-- What one stage leaves. -/
def restA (r : FVec F S8192x256 .f32) (cb : FVec F S1024x256 .f32) : FVec F S8192x256 .f32 := subf r (addf r (diffA r cb))

/-- The quantized sum after one stage. -/
def sumA (r : FVec F S8192x256 .f32) (cb : FVec F S1024x256 .f32) (xq : FVec F S8192x256 .f32) : FVec F S8192x256 .f32 :=
  addf xq (addf r (diffA r cb))

/-- The mean of the squares. -/
def meanA (e : FVec F S8192x256 .f32) : FVec F S_ .f32 :=
  Host.divf (Host.reduceAdd (mulf e e) (constant S_ .f32 0x00000000#32) reducesTo_S8192x256_S_d0_1 h_S_) (constant S_ .f32 0x4A000000#32)

/-- One stage's loss. -/
def lossA (r : FVec F S8192x256 .f32) (cb : FVec F S1024x256 .f32) : FVec F S_ .f32 :=
  addf (meanA (diffA r cb)) (mulf (constant S_ .f32 0x3F800000#32) (meanA (diffA r cb)))

/-- The mean of the three losses. -/
def meanLossA (l0 l1 l2 : FVec F S_ .f32) : FVec F S_ .f32 :=
  Host.divf (Host.reduceAdd (concatenate S3 0 [⟨S1, broadcastInDim S1 ![] bcast_S_S1 l0⟩, ⟨S1, broadcastInDim S1 ![] bcast_S_S1 l1⟩,
      ⟨S1, broadcastInDim S1 ![] bcast_S_S1 l2⟩] concatenates_S1_S1_S1_S3_d0) (constant S_ .f32 0x00000000#32) reducesTo_S3_S_d0 h_S_)
    (constant S_ .f32 0x40400000#32)

/-- The four columns of indices. -/
def codesA (i0 i1 i2 e : IVec S8192 32) : IVec S8192x4 32 :=
  concatenate S8192x4 1 [⟨S8192x1, broadcastInDim S8192x1 ![0] bcast_S8192_S8192x1_0 i0⟩,
    ⟨S8192x1, broadcastInDim S8192x1 ![0] bcast_S8192_S8192x1_0 i1⟩, ⟨S8192x1, broadcastInDim S8192x1 ![0] bcast_S8192_S8192x1_0 i2⟩,
    ⟨S8192x1, broadcastInDim S8192x1 ![0] bcast_S8192_S8192x1_0 e⟩] concatenates_S8192x1_S8192x1_S8192x1_S8192x1_S8192x4_d1

end Cert.ReferenceIdeal.Run

end
-- ==== Proof.RefStage.lean ====
/- One stage of the reference, read off its operations: its indices, its loss, what it leaves and the quantized sum. -/
module

public import proofs.«01_k».proof.Proof.RefArrays
public import Idealize.ShloMosaic.Lib.StableHlo.RunRead

@[expose] public section

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

/-! ## What the operations write -/

/-- The buffers the distances' and the index's operations write. -/
def nearW (φ : Stage) : List (Ref sig .tc) := [φ.rr.ref, φ.rrZero.ref, φ.rrSum.ref, φ.rrCol.ref, φ.two.ref, φ.twos.ref, φ.twoR.ref,
  φ.cbT.ref, φ.rc.ref, φ.rrAll.ref, φ.cross.ref, φ.cc.ref, φ.ccZero.ref, φ.ccSum.ref, φ.ccRow.ref, φ.ccAll.ref, φ.d.ref,
  φ.am.v0.ref, φ.am.cst.ref, φ.am.c.ref, φ.am.v1_0.ref, φ.am.v1_1.ref]

/-- The buffers the taking of codebook rows writes. -/
def takeW (φ : fn_take.Bufs) : List (Ref sig .tc) := [φ.c.ref, φ.v0.ref, φ.v1.ref, φ.c_0.ref, φ.v2.ref, φ.v3.ref, φ.call0.v0.ref, φ.v5.ref,
  φ.c_1.ref, φ.c_2.ref, φ.v6.ref, φ.v7.ref, φ.v8.ref, φ.v9.ref, φ.v10.ref, φ.v11.ref, φ.c_3.ref, φ.v12.ref, φ.v13.ref, φ.v14.ref,
  φ.cst.ref, φ.v15.ref, φ.v16.ref]

/-- The buffers the loss and the update write. -/
def updateW (φ : Stage) : List (Ref sig .tc) := [φ.e1.ref, φ.s1.ref, φ.z1.ref, φ.t1.ref, φ.n1.ref, φ.l1.ref, φ.e2.ref, φ.s2.ref, φ.z2.ref,
  φ.t2.ref, φ.n2.ref, φ.l2.ref, φ.one.ref, φ.w2.ref, φ.loss.ref, φ.e3.ref, φ.took.ref, φ.rest.ref, φ.xq.ref]

/-- The operations up to a stage's indices. -/
def nearOps (r : TRef sig ⟨S8192x256, .f32⟩) (cb : TRef sig ⟨S1024x256, .f32⟩) (φ : Stage) : List (HloOp τ sig (Elt F)) :=
  distOps r cb φ ++ argminOps φ.d φ.am

theorem near_keeps (r : TRef sig ⟨S8192x256, .f32⟩) (cb : TRef sig ⟨S1024x256, .f32⟩) (φ : Stage) {b : Ref sig .tc} (hb : b ∉ nearW φ)
    (V : Valuation τ sig (Elt F)) : after (nearOps r cb φ) V (b : DevRef τ sig) = V (b : DevRef τ sig) :=
  after_unwritten (nearW φ) rfl hb V

theorem take_keeps (x : TRef sig ⟨S1024x256, .f32⟩) (i : TRef sig ⟨S8192, .i32⟩) (φ : fn_take.Bufs) {b : Ref sig .tc} (hb : b ∉ takeW φ)
    (V : Valuation τ sig (Elt F)) : after (takeOps x i φ) V (b : DevRef τ sig) = V (b : DevRef τ sig) :=
  after_unwritten (takeW φ) rfl hb V

theorem update_keeps (r xq q : TRef sig ⟨S8192x256, .f32⟩) (φ : Stage) {b : Ref sig .tc} (hb : b ∉ updateW φ)
    (V : Valuation τ sig (Elt F)) : after (updateOps r xq q φ) V (b : DevRef τ sig) = V (b : DevRef τ sig) :=
  after_unwritten (updateW φ) rfl hb V

/-- A stage is its three parts in order. -/
theorem after_stage (r : TRef sig ⟨S8192x256, .f32⟩) (cb : TRef sig ⟨S1024x256, .f32⟩) (xq : TRef sig ⟨S8192x256, .f32⟩) (φ : Stage)
    (V : Valuation τ sig (Elt F)) : after (stageOps r cb xq φ) V
      = after (updateOps r xq φ.tk.v16 φ) (after (takeOps cb φ.am.v1_1 φ.tk) (after (nearOps r cb φ) V)) := by
  rw [← after_append, ← after_append]; rfl

/-- A stage leaves every buffer it does not write. -/
theorem stage_keeps (r : TRef sig ⟨S8192x256, .f32⟩) (cb : TRef sig ⟨S1024x256, .f32⟩) (xq : TRef sig ⟨S8192x256, .f32⟩) (φ : Stage)
    {b : Ref sig .tc} (hb : b ∉ nearW φ ∧ b ∉ takeW φ.tk ∧ b ∉ updateW φ) (V : Valuation τ sig (Elt F)) :
    after (stageOps r cb xq φ) V (b : DevRef τ sig) = V (b : DevRef τ sig) := by
  rw [after_stage, update_keeps _ _ _ _ hb.2.2, take_keeps _ _ _ hb.2.1, near_keeps _ _ _ hb.1]

/-! ## What a stage computes -/

/-- What a stage leaves in its result buffers, of what the buffers it reads held. -/
def Computes (r : TRef sig ⟨S8192x256, .f32⟩) (cb : TRef sig ⟨S1024x256, .f32⟩) (xq : TRef sig ⟨S8192x256, .f32⟩) (φ : Stage)
    (V W : Valuation τ sig (Elt F)) : Prop :=
  φ.am.v1_1.ofBuf (W (φ.am.v1_1.ref : DevRef τ sig)) = idxA (r.ofBuf (V (r.ref : DevRef τ sig))) (cb.ofBuf (V (cb.ref : DevRef τ sig)))
    ∧ φ.rest.ofBuf (W (φ.rest.ref : DevRef τ sig)) = restA (r.ofBuf (V (r.ref : DevRef τ sig))) (cb.ofBuf (V (cb.ref : DevRef τ sig)))
    ∧ φ.xq.ofBuf (W (φ.xq.ref : DevRef τ sig)) = sumA (r.ofBuf (V (r.ref : DevRef τ sig))) (cb.ofBuf (V (cb.ref : DevRef τ sig)))
        (xq.ofBuf (V (xq.ref : DevRef τ sig)))
    ∧ φ.loss.ofBuf (W (φ.loss.ref : DevRef τ sig)) = lossA (r.ofBuf (V (r.ref : DevRef τ sig))) (cb.ofBuf (V (cb.ref : DevRef τ sig)))

/-- A stage from its parts: the indices from the distances, the rows taken at them, and the update from those rows, when
    no part writes what a later one reads. -/
theorem computes_of (r : TRef sig ⟨S8192x256, .f32⟩) (cb : TRef sig ⟨S1024x256, .f32⟩) (xq : TRef sig ⟨S8192x256, .f32⟩) (φ : Stage)
    (hnear : ∀ V : Valuation τ sig (Elt F), φ.am.v1_1.ofBuf (after (nearOps r cb φ) V (φ.am.v1_1.ref : DevRef τ sig))
      = idxA (r.ofBuf (V (r.ref : DevRef τ sig))) (cb.ofBuf (V (cb.ref : DevRef τ sig))))
    (htake : ∀ V : Valuation τ sig (Elt F), φ.tk.v16.ofBuf (after (takeOps cb φ.am.v1_1 φ.tk) V (φ.tk.v16.ref : DevRef τ sig))
      = takeA (cb.ofBuf (V (cb.ref : DevRef τ sig))) (φ.am.v1_1.ofBuf (V (φ.am.v1_1.ref : DevRef τ sig))))
    (hupdate : ∀ V : Valuation τ sig (Elt F),
      φ.rest.ofBuf (after (updateOps r xq φ.tk.v16 φ) V (φ.rest.ref : DevRef τ sig))
          = subf (r.ofBuf (V (r.ref : DevRef τ sig))) (addf (r.ofBuf (V (r.ref : DevRef τ sig)))
            (subf (φ.tk.v16.ofBuf (V (φ.tk.v16.ref : DevRef τ sig))) (r.ofBuf (V (r.ref : DevRef τ sig)))))
      ∧ φ.xq.ofBuf (after (updateOps r xq φ.tk.v16 φ) V (φ.xq.ref : DevRef τ sig))
          = addf (xq.ofBuf (V (xq.ref : DevRef τ sig))) (addf (r.ofBuf (V (r.ref : DevRef τ sig)))
            (subf (φ.tk.v16.ofBuf (V (φ.tk.v16.ref : DevRef τ sig))) (r.ofBuf (V (r.ref : DevRef τ sig)))))
      ∧ φ.loss.ofBuf (after (updateOps r xq φ.tk.v16 φ) V (φ.loss.ref : DevRef τ sig))
          = addf (meanA (subf (φ.tk.v16.ofBuf (V (φ.tk.v16.ref : DevRef τ sig))) (r.ofBuf (V (r.ref : DevRef τ sig)))))
            (mulf (constant S_ .f32 0x3F800000#32)
              (meanA (subf (φ.tk.v16.ofBuf (V (φ.tk.v16.ref : DevRef τ sig))) (r.ofBuf (V (r.ref : DevRef τ sig)))))))
    (hr : r.ref ∉ nearW φ ∧ r.ref ∉ takeW φ.tk) (hcb : cb.ref ∉ nearW φ) (hxq : xq.ref ∉ nearW φ ∧ xq.ref ∉ takeW φ.tk)
    (hi : φ.am.v1_1.ref ∉ takeW φ.tk ∧ φ.am.v1_1.ref ∉ updateW φ) (V : Valuation τ sig (Elt F)) :
    Computes r cb xq φ V (after (stageOps r cb xq φ) V) := by
  obtain ⟨h1, h2, h3⟩ := hupdate (after (takeOps cb φ.am.v1_1 φ.tk) (after (nearOps r cb φ) V))
  rw [take_keeps _ _ _ hr.2, near_keeps _ _ _ hr.1, htake, hnear, near_keeps _ _ _ hcb] at h1 h2 h3
  rw [take_keeps _ _ _ hxq.2, near_keeps _ _ _ hxq.1] at h2
  unfold Computes
  rw [after_stage]
  refine ⟨?_, h1, h2, h3⟩
  rw [update_keeps _ _ _ _ hi.2, take_keeps _ _ _ hi.1, hnear]

set_option maxRecDepth 65536 in
/-- Stage 1. -/
theorem computes1 (V : Valuation τ sig (Elt F)) : Computes (.of main_arg0) (.of main_arg1) (.of main_v15) stage1 V
    (after (stageOps (.of main_arg0) (.of main_arg1) (.of main_v15) stage1) V) := by
  refine computes_of _ _ _ _ (fun V => ?_) (fun V => ?_) (fun V => ?_) (by decide) (by decide) (by decide) (by decide) V
  · simp only [nearOps, distOps, argminOps, List.cons_append, List.nil_append]; after_results_simp; rfl
  · unfold takeOps; after_results_simp; rfl
  · unfold updateOps; refine ⟨?_, ?_, ?_⟩ <;> (after_results_simp; rfl)

set_option maxRecDepth 65536 in
/-- Stage 2. -/
theorem computes2 (V : Valuation τ sig (Elt F)) : Computes (.of main_v44) (.of main_arg2) (.of main_v45) stage2 V
    (after (stageOps (.of main_v44) (.of main_arg2) (.of main_v45) stage2) V) := by
  refine computes_of _ _ _ _ (fun V => ?_) (fun V => ?_) (fun V => ?_) (by decide) (by decide) (by decide) (by decide) V
  · simp only [nearOps, distOps, argminOps, List.cons_append, List.nil_append]; after_results_simp; rfl
  · unfold takeOps; after_results_simp; rfl
  · unfold updateOps; refine ⟨?_, ?_, ?_⟩ <;> (after_results_simp; rfl)

set_option maxRecDepth 65536 in
/-- Stage 3. -/
theorem computes3 (V : Valuation τ sig (Elt F)) : Computes (.of main_v74) (.of main_arg3) (.of main_v75) stage3 V
    (after (stageOps (.of main_v74) (.of main_arg3) (.of main_v75) stage3) V) := by
  refine computes_of _ _ _ _ (fun V => ?_) (fun V => ?_) (fun V => ?_) (by decide) (by decide) (by decide) (by decide) V
  · simp only [nearOps, distOps, argminOps, List.cons_append, List.nil_append]; after_results_simp; rfl
  · unfold takeOps; after_results_simp; rfl
  · unfold updateOps; refine ⟨?_, ?_, ?_⟩ <;> (after_results_simp; rfl)

end Cert.ReferenceIdeal.Run

end
-- ==== Proof.RefResults.lean ====
/- The reference's results as functions of its arguments, and its run. -/
module

public import proofs.«01_k».proof.Proof.RefStage

@[expose] public section

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

/-- The zeros the quantized sum starts at. -/
def zerosA : FVec F S8192x256 .f32 := broadcastInDim S8192x256 ![] bcast_S_S8192x256 (constant S_ .f32 0x00000000#32)

/-! ## The gate and the end -/

/-- The buffers the gate's operations write. -/
def gateW : List (Ref sig .tc) := [main_v0, main_v1, main_v2, main_v3, main_cst, main_v4, main_cst_0, main_v5, main_v6, main_v7, main_v8,
  main_v9, main_v10, main_cst_1, main_v11, main_v12, main_v13, main_v14, main_cst_2, main_v15]

/-- The buffers the expert's operations write. -/
def expertW : List (Ref sig .tc) := [main_call6_v0, main_call6_cst, main_call6_c, main_call6_v1_0, main_v106]

/-- The buffers the last operations write. -/
def endW : List (Ref sig .tc) := [main_v107, main_v108, main_v109, main_v110, main_cst_27, main_v111, main_cst_28, main_v112,
  main_v113, main_v114, main_v115, main_v116, main_v117]

/-- The operations of the expert. -/
def expertOps : List (HloOp τ sig (Elt F)) := argmaxOps (.of main_v14) main_call6

theorem gate_keeps {b : Ref sig .tc} (hb : b ∉ gateW) (V : Valuation τ sig (Elt F)) :
    after gateOps V (b : DevRef τ sig) = V (b : DevRef τ sig) := after_unwritten gateW rfl hb V

theorem expert_keeps {b : Ref sig .tc} (hb : b ∉ expertW) (V : Valuation τ sig (Elt F)) :
    after expertOps V (b : DevRef τ sig) = V (b : DevRef τ sig) := after_unwritten expertW rfl hb V

theorem end_keeps {b : Ref sig .tc} (hb : b ∉ endW) (V : Valuation τ sig (Elt F)) :
    after endOps V (b : DevRef τ sig) = V (b : DevRef τ sig) := after_unwritten endW rfl hb V

/-- The gate's probabilities. -/
theorem gate_probs (V : Valuation τ sig (Elt F)) : after gateOps V (main_v14 : DevRef τ sig)
    = probsA (logitsA (V (main_arg0 : DevRef τ sig)) (V (main_arg4 : DevRef τ sig)) (V (main_arg5 : DevRef τ sig))) := by
  unfold gateOps; after_results_simp; rfl

/-- The zeros. -/
theorem gate_zeros (V : Valuation τ sig (Elt F)) : after gateOps V (main_v15 : DevRef τ sig) = zerosA := by
  unfold gateOps; after_results_simp; rfl

/-- The expert. -/
theorem expert_read (V : Valuation τ sig (Elt F)) :
    after expertOps V (main_v106 : DevRef τ sig) = argmaxA (V (main_v14 : DevRef τ sig)) := by
  unfold expertOps argmaxOps; after_results_simp; rfl

/-- The mean loss. -/
theorem end_loss (V : Valuation τ sig (Elt F)) : after endOps V (main_v112 : DevRef τ sig)
    = meanLossA (V (main_v41 : DevRef τ sig)) (V (main_v71 : DevRef τ sig)) (V (main_v101 : DevRef τ sig)) := by
  unfold endOps; after_results_simp; rfl

/-- The columns of indices. -/
theorem end_codes (V : Valuation τ sig (Elt F)) : after endOps V (main_v117 : DevRef τ sig)
    = codesA (V (main_v30 : DevRef τ sig)) (V (main_v60 : DevRef τ sig)) (V (main_v90 : DevRef τ sig)) (V (main_v106 : DevRef τ sig)) := by
  unfold endOps; after_results_simp; rfl

/-! ## The whole list -/

section Whole

variable (V : Valuation τ sig (Elt F))

/-- The contents after the gate, and after each stage. -/
abbrev V1 := after gateOps V
@[inherit_doc V1] abbrev V2 := after (stageOps (.of main_arg0) (.of main_arg1) (.of main_v15) stage1) (V1 V)
@[inherit_doc V1] abbrev V3 := after (stageOps (.of main_v44) (.of main_arg2) (.of main_v45) stage2) (V2 V)
@[inherit_doc V1] abbrev V4 := after (stageOps (.of main_v74) (.of main_arg3) (.of main_v75) stage3) (V3 V)

theorem after_ops : after ops V = after endOps (after expertOps (V4 V)) := by
  unfold ops V4 V3 V2 V1 expertOps
  simp only [after_append]

/-- What no stage writes. -/
abbrev Kept (b : Ref sig .tc) : Prop :=
  (b ∉ nearW stage1 ∧ b ∉ takeW stage1.tk ∧ b ∉ updateW stage1) ∧ (b ∉ nearW stage2 ∧ b ∉ takeW stage2.tk ∧ b ∉ updateW stage2)
    ∧ (b ∉ nearW stage3 ∧ b ∉ takeW stage3.tk ∧ b ∉ updateW stage3)

theorem V2_keeps {b : Ref sig .tc} (h : b ∉ nearW stage1 ∧ b ∉ takeW stage1.tk ∧ b ∉ updateW stage1) :
    V2 V (b : DevRef τ sig) = V1 V (b : DevRef τ sig) := stage_keeps _ _ _ _ h _

theorem V3_keeps {b : Ref sig .tc} (h : b ∉ nearW stage2 ∧ b ∉ takeW stage2.tk ∧ b ∉ updateW stage2) :
    V3 V (b : DevRef τ sig) = V2 V (b : DevRef τ sig) := stage_keeps _ _ _ _ h _

theorem V4_keeps {b : Ref sig .tc} (h : b ∉ nearW stage3 ∧ b ∉ takeW stage3.tk ∧ b ∉ updateW stage3) :
    V4 V (b : DevRef τ sig) = V3 V (b : DevRef τ sig) := stage_keeps _ _ _ _ h _

/-- An argument ends as it began. -/
theorem ops_keeps {b : Ref sig .tc} (h : b ∉ gateW) (h' : Kept b) (h2 : b ∉ expertW) (h3 : b ∉ endW) :
    after ops V (b : DevRef τ sig) = V (b : DevRef τ sig) := by
  rw [after_ops, end_keeps h3, expert_keeps h2, V4_keeps V h'.2.2, V3_keeps V h'.2.1, V2_keeps V h'.1, V1, gate_keeps h]

/-- The stages' residuals, of the arguments. -/
abbrev r1 : FVec F S8192x256 .f32 := restA (V (main_arg0 : DevRef τ sig)) (V (main_arg1 : DevRef τ sig))
@[inherit_doc r1] abbrev r2 : FVec F S8192x256 .f32 := restA (r1 V) (V (main_arg2 : DevRef τ sig))

set_option maxRecDepth 65536 in
/-- What stage 1 leaves, of the arguments. -/
theorem stage1_of : V2 V (main_v30 : DevRef τ sig) = idxA (V (main_arg0 : DevRef τ sig)) (V (main_arg1 : DevRef τ sig))
    ∧ V2 V (main_v44 : DevRef τ sig) = r1 V
    ∧ V2 V (main_v45 : DevRef τ sig) = sumA (V (main_arg0 : DevRef τ sig)) (V (main_arg1 : DevRef τ sig)) zerosA
    ∧ V2 V (main_v41 : DevRef τ sig) = lossA (V (main_arg0 : DevRef τ sig)) (V (main_arg1 : DevRef τ sig)) := by
  have h := computes1 (V1 V)
  have h0 : V1 V (main_arg0 : DevRef τ sig) = V (main_arg0 : DevRef τ sig) := gate_keeps (by decide) V
  have h1 : V1 V (main_arg1 : DevRef τ sig) = V (main_arg1 : DevRef τ sig) := gate_keeps (by decide) V
  rw [Computes, show (TRef.of main_v15 : TRef sig ⟨S8192x256, .f32⟩).ofBuf (V1 V (main_v15 : DevRef τ sig)) = zerosA from gate_zeros V] at h
  rw [← h0, ← h1]
  exact h

set_option maxRecDepth 65536 in
/-- What stage 2 leaves, of the arguments. -/
theorem stage2_of : V3 V (main_v60 : DevRef τ sig) = idxA (r1 V) (V (main_arg2 : DevRef τ sig))
    ∧ V3 V (main_v74 : DevRef τ sig) = r2 V
    ∧ V3 V (main_v75 : DevRef τ sig) = sumA (r1 V) (V (main_arg2 : DevRef τ sig))
        (sumA (V (main_arg0 : DevRef τ sig)) (V (main_arg1 : DevRef τ sig)) zerosA)
    ∧ V3 V (main_v71 : DevRef τ sig) = lossA (r1 V) (V (main_arg2 : DevRef τ sig)) := by
  have h := computes2 (V2 V)
  obtain ⟨-, hr, hq, -⟩ := stage1_of V
  have hc : V2 V (main_arg2 : DevRef τ sig) = V (main_arg2 : DevRef τ sig) :=
    (stage_keeps _ _ _ _ (by decide) _).trans (gate_keeps (by decide) V)
  rw [← hc, ← hr, ← hq, r2, ← hr, ← hc]
  exact h

set_option maxRecDepth 65536 in
/-- What stage 3 leaves, of the arguments. -/
theorem stage3_of : V4 V (main_v90 : DevRef τ sig) = idxA (r2 V) (V (main_arg3 : DevRef τ sig))
    ∧ V4 V (main_v105 : DevRef τ sig) = sumA (r2 V) (V (main_arg3 : DevRef τ sig)) (sumA (r1 V) (V (main_arg2 : DevRef τ sig))
        (sumA (V (main_arg0 : DevRef τ sig)) (V (main_arg1 : DevRef τ sig)) zerosA))
    ∧ V4 V (main_v101 : DevRef τ sig) = lossA (r2 V) (V (main_arg3 : DevRef τ sig)) := by
  have h := computes3 (V3 V)
  obtain ⟨-, hr, hq, -⟩ := stage2_of V
  have hc : V3 V (main_arg3 : DevRef τ sig) = V (main_arg3 : DevRef τ sig) :=
    (stage_keeps _ _ _ _ (by decide) _).trans ((stage_keeps _ _ _ _ (by decide) _).trans (gate_keeps (by decide) V))
  rw [← hc, ← hr, ← hq]
  exact ⟨h.1, h.2.2.1, h.2.2.2⟩

/-- The quantized rows. -/
theorem ops_xq : after ops V (main_v105 : DevRef τ sig) = sumA (r2 V) (V (main_arg3 : DevRef τ sig)) (sumA (r1 V) (V (main_arg2 : DevRef τ sig))
    (sumA (V (main_arg0 : DevRef τ sig)) (V (main_arg1 : DevRef τ sig)) zerosA)) := by
  rw [after_ops, end_keeps (by decide), expert_keeps (by decide)]
  exact (stage3_of V).2.1

/-- The mean loss. -/
theorem ops_loss : after ops V (main_v112 : DevRef τ sig) = meanLossA (lossA (V (main_arg0 : DevRef τ sig)) (V (main_arg1 : DevRef τ sig)))
    (lossA (r1 V) (V (main_arg2 : DevRef τ sig))) (lossA (r2 V) (V (main_arg3 : DevRef τ sig))) := by
  rw [after_ops, end_loss, expert_keeps (by decide), expert_keeps (by decide), expert_keeps (by decide), (stage3_of V).2.2,
    V4_keeps V (b := main_v41) (by decide), V3_keeps V (b := main_v41) (by decide), (stage1_of V).2.2.2,
    V4_keeps V (b := main_v71) (by decide), (stage2_of V).2.2.2]

/-- The indices. -/
theorem ops_codes : after ops V (main_v117 : DevRef τ sig) = codesA (idxA (V (main_arg0 : DevRef τ sig)) (V (main_arg1 : DevRef τ sig)))
    (idxA (r1 V) (V (main_arg2 : DevRef τ sig))) (idxA (r2 V) (V (main_arg3 : DevRef τ sig)))
    (argmaxA (probsA (logitsA (V (main_arg0 : DevRef τ sig)) (V (main_arg4 : DevRef τ sig)) (V (main_arg5 : DevRef τ sig))))) := by
  rw [after_ops, end_codes, expert_keeps (by decide), expert_keeps (by decide), expert_keeps (by decide), expert_read, (stage3_of V).1,
    V4_keeps V (b := main_v30) (by decide), V3_keeps V (b := main_v30) (by decide), (stage1_of V).1,
    V4_keeps V (b := main_v60) (by decide), (stage2_of V).1,
    V4_keeps V (b := main_v14) (by decide), V3_keeps V (b := main_v14) (by decide), V2_keeps V (b := main_v14) (by decide), V1, gate_probs]

end Whole

/-! ## The run -/

set_option maxRecDepth 65536 in
theorem ops_sub : (ops (F := F)).Forall fun op => op.bufs ⊆ tcRefs τ sig := by
  simp [ops, gateOps, stageOps, distOps, argminOps, takeOps, updateOps, argmaxOps, endOps]

set_option maxRecDepth 65536 in
theorem ops_fresh : ∀ op ∈ ops (F := F), op.fresh = ∅ := by
  intro op h
  simp only [ops, gateOps, stageOps, distOps, argminOps, takeOps, updateOps, argmaxOps, endOps, List.cons_append, List.nil_append] at h
  repeat (cases h with | head => rfl | tail _ h => ?_)
  exact nomatch h

/-- Every buffer ends holding what the operations leave there of the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (b : DevRef τ sig) :=
  run_hlo defs main main_eq (by decide) (by decide) ops_sub ops_fresh m ρ

end Cert.ReferenceIdeal.Run

end
-- ==== Proof.RefStageValue.lean ====
/- One stage of the reference over the extended reals, by rows: its squared distances, its indices, and what it leaves. -/
module

public import proofs.«01_k».proof.Proof.RefArrays
public import proofs.«01_k».proof.Proof.Facts
public import Idealize.ShloMosaic.Lib.Routing.Ops
public import Idealize.ShloMosaic.Lib.Pointwise.IndexBridge

@[expose] public section

noncomputable section

namespace Cert.ReferenceIdeal.Value

open Idealize.ShloMosaic Cert.Rvq
open Cert.ReferenceIdeal Cert.ReferenceIdeal.Gen Cert.ReferenceIdeal.Run

/-- Doubling passes through a sum of products. -/
theorem sum_two_mul {n : ℕ} (a b : Fin n → EReal) : ∑ j, 2 * a j * b j = 2 * ∑ j, a j * b j := by
  have h (S : Finset (Fin n)) : ∑ j ∈ S, 2 * a j * b j = 2 * ∑ j ∈ S, a j * b j := by
    induction S using Finset.cons_induction with
    | empty => simp
    | cons x S hx ih =>
      rw [Finset.sum_cons, Finset.sum_cons, ih, EReal.left_distrib_of_nonneg_of_ne_top (by norm_num) (by decide), mul_assoc]
  exact h _

/-- The squared distances, by rows. -/
theorem distA_at (r : FVec Ideal S8192x256 .f32) (cb : FVec Ideal S1024x256 .f32) (i : Fin 8192) (k : Fin 1024) :
    distA (F := Ideal) r cb (ix2 i k) = sqDist (rowOf cb) (rowOf r i) k := by
  unfold sqDist rowOf
  rw [← sum_two_mul]
  pointwise [distA, ofBits_two]

/-! ## The first least, and the first greatest, index along a row -/

/-- The pairs of a row: its values, each with its index. -/
theorem mem_fiber {n k : ℕ} (h : (⟨2, ![n, k]⟩ : Shape).ReducesTo [1] ⟨1, ![n]⟩) (hd : ∀ a b, (h.drop (ix2 a b) 0).val = a.val)
    (x : (⟨2, ![n, k]⟩ : Shape).Idx → EReal) (y : (⟨2, ![n, k]⟩ : Shape).Idx → BitVec 32)
    (hy : ∀ i j, y (ix2 i j) = BitVec.ofNat 32 j) (i : Fin n) (p : EReal × BitVec 32) :
    p ∈ Host.argReduceFiber x y h (ix1 i) ↔ ∃ j : Fin k, p = (x (ix2 i j), BitVec.ofNat 32 j) := by
  have hd' (a : Fin n) (b : Fin k) : h.drop (ix2 a b) = ix1 i ↔ a = i := by
    constructor
    · intro hh; exact Fin.ext ((hd a b).symm.trans (congrArg Fin.val (congrFun hh 0)))
    · rintro rfl; funext d; obtain rfl : d = 0 := Subsingleton.elim _ _; exact Fin.ext (hd _ b)
  unfold Host.argReduceFiber
  rw [List.mem_map]
  constructor
  · rintro ⟨q, hq, rfl⟩
    have hq := of_decide_eq_true (List.mem_filter.mp hq).2
    obtain ⟨z, hz⟩ : ∃ z, (⟨2, ![n, k]⟩ : Shape).rowMajor.symm q = z := ⟨_, rfl⟩
    rw [hz] at hq ⊢
    obtain ⟨z0, z1, rfl⟩ : ∃ (z0 : Fin n) (z1 : Fin k), z = ix2 z0 z1 := ⟨_, _, eq_ix2 z⟩
    obtain rfl := (hd' _ _).mp hq
    exact ⟨z1, by rw [hy]⟩
  · rintro ⟨j, rfl⟩
    refine ⟨(⟨2, ![n, k]⟩ : Shape).rowMajor (ix2 i j), List.mem_filter.mpr ⟨List.mem_finRange _, decide_eq_true ?_⟩, ?_⟩
    · rw [Equiv.symm_apply_apply]; exact (hd' _ _).mpr rfl
    · rw [Equiv.symm_apply_apply, hy]

/-- The reducer of a first least index keeps the earlier of two pairs. -/
theorem argmin_keeps (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨a1, a2⟩ := a
  obtain ⟨b1, b2⟩ := b
  have e : reducer_argmin_f32_i32 (F := Ideal) (a1, a2) (b1, b2)
      = (if a1 < b1 then a1 else b1, if a1 < b1 ∨ a1 = b1 ∧ a2.toInt < b2.toInt then a2 else b2) := by
    by_cases h1 : a1 < b1 <;> by_cases h2 : a1 = b1 <;> by_cases h3 : a2.toInt < b2.toInt <;>
      simp [reducer_argmin_f32_i32, FloatOps.cmpf, Ideal.cmp, IntOp.ori, IntOp.andi, IntOp.cmpi, Scalar.select, BitVec.slt, h1, h2, h3]
  rw [e]
  rcases lt_trichotomy a1 b1 with h | rfl | h
  · simp [h, Before]
  · by_cases h3 : a2.toInt < b2.toInt
    · simp [h3, Before, h3.le]
    · simp [h3, Before, not_lt.mp h3]
  · simp [h.not_gt, h.ne', h, Before]

/-- The reducer of a first greatest index does so for the negated values. -/
theorem argmax_neg (a b : EReal × BitVec 32) :
    reducer_argmax_f32_i32 (F := Ideal) a b
      = (-(reducer_argmin_f32_i32 (F := Ideal) (-a.1, a.2) (-b.1, b.2)).1, (reducer_argmin_f32_i32 (F := Ideal) (-a.1, a.2) (-b.1, b.2)).2) := by
  obtain ⟨a1, a2⟩ := a
  obtain ⟨b1, b2⟩ := b
  by_cases h1 : b1 < a1 <;> by_cases h2 : a1 = b1 <;> by_cases h3 : a2.toInt < b2.toInt <;>
    simp [reducer_argmin_f32_i32, reducer_argmax_f32_i32, FloatOps.cmpf, Ideal.cmp, IntOp.ori, IntOp.andi, IntOp.cmpi, Scalar.select, BitVec.slt, h1, h2, h3]

/-- Along row `i` of a matrix, whose second operand holds each entry's column: the first least index. -/
theorem argmin_row {n k : ℕ} [NeZero k] (hk : k < 2 ^ 31) (h : (⟨2, ![n, k]⟩ : Shape).ReducesTo [1] ⟨1, ![n]⟩)
    (hd : ∀ a b, (h.drop (ix2 a b) 0).val = a.val) (x : FVec Ideal ⟨2, ![n, k]⟩ .f32) (y : (⟨2, ![n, k]⟩ : Shape).Idx → BitVec 32)
    (hy : ∀ i j, y (ix2 i j) = BitVec.ofNat 32 j) (a : FVec Ideal S_ .f32) (b : IVec S_ 32) (hu : 0 < S_.numel) (ha : ∀ z, a z = ⊤)
    (hb : ∀ z, b z = 0#32) (i : Fin n) :
    (Host.argReduce reducer_argmin_f32_i32 x y a b h hu (ix1 i)).2 = BitVec.ofNat 32 (firstMin fun j => x (ix2 i j)) := by
  rw [Ideal.argReduce_eq_reduce2, Host.reduce2_eq_foldl_fiber, ha, hb]
  exact foldl_eq_firstMin hk (fun j => x (ix2 i j)) _ argmin_keeps _ (mem_fiber h hd x y hy i)

/-- A fold of the second reducer is the fold of the first over the negated pairs. -/
theorem foldl_argmax (L : List (EReal × BitVec 32)) (a : EReal × BitVec 32) :
    (L.foldl (reducer_argmax_f32_i32 (F := Ideal)) a).2
      = ((L.map fun p => (-p.1, p.2)).foldl (reducer_argmin_f32_i32 (F := Ideal)) (-a.1, a.2)).2 := by
  have h : ∀ (L : List (EReal × BitVec 32)) (a b : EReal × BitVec 32), b = (-a.1, a.2) →
      (L.foldl (reducer_argmax_f32_i32 (F := Ideal)) a).2
        = ((L.map fun p => (-p.1, p.2)).foldl (reducer_argmin_f32_i32 (F := Ideal)) b).2 := by
    intro L
    induction L with
    | nil => rintro a _ rfl; rfl
    | cons p L ih =>
      rintro a _ rfl
      refine ih _ _ ?_
      rw [argmax_neg]
      simp
  exact h L a _ rfl

/-- Along row `i` of a matrix, whose second operand holds each entry's column: the first greatest index. -/
theorem argmax_row {n k : ℕ} [NeZero k] (hk : k < 2 ^ 31) (h : (⟨2, ![n, k]⟩ : Shape).ReducesTo [1] ⟨1, ![n]⟩)
    (hd : ∀ a b, (h.drop (ix2 a b) 0).val = a.val) (x : FVec Ideal ⟨2, ![n, k]⟩ .f32) (y : (⟨2, ![n, k]⟩ : Shape).Idx → BitVec 32)
    (hy : ∀ i j, y (ix2 i j) = BitVec.ofNat 32 j) (a : FVec Ideal S_ .f32) (b : IVec S_ 32) (hu : 0 < S_.numel) (ha : ∀ z, a z = ⊥)
    (hb : ∀ z, b z = 0#32) (i : Fin n) :
    (Host.argReduce reducer_argmax_f32_i32 x y a b h hu (ix1 i)).2 = BitVec.ofNat 32 (firstMax fun j => x (ix2 i j)) := by
  rw [Ideal.argReduce_eq_reduce2, Host.reduce2_eq_foldl_fiber, ha, hb]
  refine (foldl_argmax _ _).trans ?_
  rw [show (-(⊥ : EReal)) = ⊤ from EReal.neg_bot]
  refine foldl_eq_firstMin hk (fun j => -x (ix2 i j)) _ argmin_keeps _ fun p => ?_
  have hf := mem_fiber h hd x y hy i
  rw [List.mem_map]
  constructor
  · rintro ⟨q, hq, rfl⟩
    obtain ⟨j, rfl⟩ := (hf q).mp hq
    exact ⟨j, rfl⟩
  · rintro ⟨j, rfl⟩
    exact ⟨_, (hf _).mpr ⟨j, rfl⟩, rfl⟩

/-- What argminA takes of a row. -/
theorem argminA_eq (d : FVec Ideal S8192x1024 .f32) : argminA (F := Ideal) d = fun j =>
    (Host.argReduce (F := Ideal) reducer_argmin_f32_i32 d (iotaInDim S8192x1024 32 1) (constant S_ .f32 0x7F800000#32) (constantI S_ 32 0#32)
      reducesTo_S8192x1024_S8192_d1 h_S_ j).2 := rfl

/-- The first least index along a row. -/
theorem argminA_at (d : FVec Ideal S8192x1024 .f32) (i : Fin 8192) :
    argminA (F := Ideal) d (ix1 i) = BitVec.ofNat 32 (firstMin fun k => d (ix2 i k)) :=
  (congrFun (argminA_eq d) (ix1 i)).trans
    (argmin_row (by norm_num) reducesTo_S8192x1024_S8192_d1 (fun a b => Shape.ReducesTo.drop_apply_val_of_eq reducesTo_S8192x1024_S8192_d1 (ix2 a b) 0 0)
      d (iotaInDim S8192x1024 32 1) (fun a b => by pointwise) (constant S_ .f32 0x7F800000#32) (constantI S_ 32 0#32) h_S_ (fun _ => ofBits_top) (fun _ => rfl) i)

/-- What argmaxA takes of a row. -/
theorem argmaxA_eq (d : FVec Ideal S8192x8 .f32) : argmaxA (F := Ideal) d = fun j =>
    (Host.argReduce (F := Ideal) reducer_argmax_f32_i32 d (iotaInDim S8192x8 32 1) (constant S_ .f32 0xFF800000#32) (constantI S_ 32 0#32)
      reducesTo_S8192x8_S8192_d1 h_S_ j).2 := rfl

/-- The first greatest index along a row. -/
theorem argmaxA_at (d : FVec Ideal S8192x8 .f32) (i : Fin 8192) :
    argmaxA (F := Ideal) d (ix1 i) = BitVec.ofNat 32 (firstMax fun k => d (ix2 i k)) :=
  (congrFun (argmaxA_eq d) (ix1 i)).trans
    (argmax_row (by norm_num) reducesTo_S8192x8_S8192_d1 (fun a b => Shape.ReducesTo.drop_apply_val_of_eq reducesTo_S8192x8_S8192_d1 (ix2 a b) 0 0)
      d (iotaInDim S8192x8 32 1) (fun a b => by pointwise) (constant S_ .f32 0xFF800000#32) (constantI S_ 32 0#32) h_S_ (fun _ => ofBits_bot) (fun _ => rfl) i)

/-- One stage's indices, by rows. -/
theorem idxA_at (r : FVec Ideal S8192x256 .f32) (cb : FVec Ideal S1024x256 .f32) (i : Fin 8192) :
    idxA (F := Ideal) r cb (ix1 i) = BitVec.ofNat 32 (near (rowOf cb) (rowOf r i)) := by
  unfold idxA near
  rw [argminA_at]
  simp only [distA_at]

/-! ## The rows at the indices -/

/-- Where an index is below 1024, the row taken is the codebook's there. -/
theorem takeA_at (cb : FVec Ideal S1024x256 .f32) (v : IVec S8192 32) (i : Fin 8192) (k : Fin 1024) (hv : v (ix1 i) = BitVec.ofNat 32 k)
    (j : Fin 256) : takeA (F := Ideal) cb v (ix2 i j) = cb (ix2 k j) := by
  have hw : wrapA v (ix2 i (0 : Fin 1)) = BitVec.ofNat 32 k := by
    pointwise [wrapA]
    rw [hv]
    have := k.isLt
    have h0 : ¬ ((k.val : ℤ) < 0) := by omega
    simp [IntOp.cmpi, BitVec.slt, toInt_ofNat (show k.val < 2 ^ 31 by omega), Scalar.select, h0]
  have hin : insideA (wrapA v) (ix1 i) = 1#1 := by
    have := k.isLt
    pointwise [insideA]
    refine (Finset.fold_singleton (a := (0 : Fin 1)) ..).trans ?_
    rw [hw]
    have h0 : (0 : ℤ) ≤ k.val := by omega
    have h1 : (k.val : ℤ) ≤ 1023 := by omega
    simp [IntOp.cmpi, IntOp.andi, BitVec.sle, toInt_ofNat (show k.val < 2 ^ 31 by omega), h0, h1]
  have hg := Routing.gather_row gather_S1024x256_S8192x1_S8192x256_1_0_n_n_0_1_1256 rfl rfl rfl rfl rfl cb (wrapA v) i j k
    (by rw [← ix2_eq_valueIdx]; exact hw) (by norm_num)
  rw [← ix2_eq_valueIdx, ← ix2_eq_valueIdx] at hg
  unfold takeA
  pointwise
  rw [hin, hg]
  rfl

/-- One stage's difference, by rows. -/
theorem diffA_row (r : FVec Ideal S8192x256 .f32) (cb : FVec Ideal S1024x256 .f32) (i : Fin 8192) :
    rowOf (diffA (F := Ideal) r cb) i = diff (rowOf cb) (rowOf r i) := by
  funext j
  unfold rowOf diff diffA
  pointwise
  rw [takeA_at cb _ i _ (idxA_at r cb i)]
  rfl

/-- What one stage leaves, by rows. -/
theorem restA_row (r : FVec Ideal S8192x256 .f32) (cb : FVec Ideal S1024x256 .f32) (i : Fin 8192) :
    rowOf (restA (F := Ideal) r cb) i = rest (rowOf cb) (rowOf r i) := by
  funext j
  have h := congrFun (diffA_row r cb i) j
  unfold rest took
  rw [← h]
  unfold rowOf restA
  pointwise

/-- The quantized sum after one stage. -/
theorem sumA_at (r : FVec Ideal S8192x256 .f32) (cb : FVec Ideal S1024x256 .f32) (q : FVec Ideal S8192x256 .f32) (i : Fin 8192) (j : Fin 256) :
    sumA (F := Ideal) r cb q (ix2 i j) = q (ix2 i j) + took (rowOf cb) (rowOf r i) j := by
  have h := congrFun (diffA_row r cb i) j
  unfold took
  rw [← h]
  unfold rowOf sumA
  pointwise

/-- The mean of the squared differences. -/
theorem meanA_eq (r : FVec Ideal S8192x256 .f32) (cb : FVec Ideal S1024x256 .f32) (z : S_.Idx) :
    meanA (F := Ideal) (diffA r cb) z = Ideal.div (∑ i, sqSum (rowOf cb) (rowOf r i)) ((2097152 : ℝ) : EReal) := by
  have h : ∀ i, sqSum (rowOf cb) (rowOf r i) = ∑ j, diffA (F := Ideal) r cb (ix2 i j) * diffA (F := Ideal) r cb (ix2 i j) := fun i => by
    unfold sqSum
    rw [← diffA_row]
    rfl
  simp only [h]
  pointwise [meanA, ofBits_count]

end Cert.ReferenceIdeal.Value

end
-- ==== Proof.RefGate.lean ====
/- The reference's gate over the extended reals: on finite inputs the first greatest probability of a row is at its first
   greatest logit. -/
module

public import proofs.«01_k».proof.Proof.RefStageValue

@[expose] public section

noncomputable section

namespace Cert.ReferenceIdeal.Value

open Idealize.ShloMosaic Cert.Rvq
open Cert.ReferenceIdeal Cert.ReferenceIdeal.Gen Cert.ReferenceIdeal.Run

/-- The logits, by rows. -/
theorem logitsA_at (x : FVec Ideal S8192x256 .f32) (w : FVec Ideal S256x8 .f32) (b : FVec Ideal S8 .f32) (i : Fin 8192) (e : Fin 8) :
    logitsA (F := Ideal) x w b (ix2 i e) = logit (rowOf w) (fun e => b (ix1 e)) (rowOf x i) e := by
  unfold logit rowOf
  pointwise [logitsA]

/-- The exponentials, by rows. -/
theorem expA_at (l : FVec Ideal S8192x8 .f32) (i : Fin 8192) (e : Fin 8) :
    expA (F := Ideal) l (ix2 i e) = Ideal.exp (l (ix2 i e) - Finset.univ.fold max ⊥ fun k => l (ix2 i k)) := by
  pointwise [expA, rows8, ofBits_bot]
  rw [max_eq_right bot_le]

/-- The probabilities, by rows. -/
theorem probsA_at (l : FVec Ideal S8192x8 .f32) (i : Fin 8192) (e : Fin 8) :
    probsA (F := Ideal) l (ix2 i e) = Ideal.div (expA (F := Ideal) l (ix2 i e)) (∑ k, expA (F := Ideal) l (ix2 i k)) := by
  pointwise [probsA, rows8]

/-- Of a row of finite logits the probabilities are ordered as the logits. -/
theorem probsA_le (l : FVec Ideal S8192x8 .f32) (i : Fin 8192) (h : ∀ e, IsReal (l (ix2 i e))) (e e' : Fin 8) :
    probsA (F := Ideal) l (ix2 i e) ≤ probsA (F := Ideal) l (ix2 i e') ↔ l (ix2 i e) ≤ l (ix2 i e') := by
  choose a ha using h
  obtain ⟨k, hk⟩ := (fold_max_spec fun k => l (ix2 i k)).2
  have hx : ∀ e, expA (F := Ideal) l (ix2 i e) = ((Real.exp (a e - a k) : ℝ) : EReal) := fun e => by
    rw [expA_at, ← hk, ha, ha, ← EReal.coe_sub, Ideal.exp_coe]
  have hs : (∑ e, expA (F := Ideal) l (ix2 i e)) = ((∑ e, Real.exp (a e - a k) : ℝ) : EReal) := by
    simp only [hx]
    exact (map_sum (⟨⟨Real.toEReal, rfl⟩, EReal.coe_add⟩ : ℝ →+ EReal) _ _).symm
  have hpos : 0 < ∑ e, Real.exp (a e - a k) := Finset.sum_pos (fun e _ => Real.exp_pos _) ⟨0, Finset.mem_univ _⟩
  rw [probsA_at, probsA_at, hs, hx, hx, ha, ha, Ideal.div_coe hpos.ne', Ideal.div_coe hpos.ne', ← EReal.coe_mul, ← EReal.coe_mul,
    EReal.coe_le_coe_iff, EReal.coe_le_coe_iff, mul_le_mul_iff_left₀ (one_div_pos.mpr hpos), Real.exp_le_exp]
  exact sub_le_sub_iff_right _

/-- The expert of a row. -/
theorem expert_at (x : FVec Ideal S8192x256 .f32) (w : FVec Ideal S256x8 .f32) (b : FVec Ideal S8 .f32) (i : Fin 8192)
    (hx : ∀ j, IsReal (x (ix2 i j))) (hw : ∀ j e, IsReal (w (ix2 j e))) (hb : ∀ e, IsReal (b (ix1 e))) :
    argmaxA (F := Ideal) (probsA (logitsA x w b)) (ix1 i)
      = BitVec.ofNat 32 (expert (rowOf w) (fun e => b (ix1 e)) (rowOf x i)) := by
  have hl : ∀ e, IsReal (logitsA (F := Ideal) x w b (ix2 i e)) := fun e => by
    rw [logitsA_at]
    exact (isReal_sum _ _ fun j => (hx j).mul (hw j e)).add (hb e)
  rw [argmaxA_at, firstMax_congr fun e e' => probsA_le _ i hl e e']
  unfold expert
  simp only [logitsA_at]

end Cert.ReferenceIdeal.Value

end
-- ==== Proof.RefValue.lean ====
/- The reference's three results over the extended reals, by rows of the input. -/
module

public import proofs.«01_k».proof.Proof.RefResults
public import proofs.«01_k».proof.Proof.RefGate
public import proofs.«01_k».proof.Proof.MeanLoss

@[expose] public section

set_option maxRecDepth 16384

noncomputable section

namespace Cert.ReferenceIdeal.Value

open Idealize.ShloMosaic Idealize.ShloMosaic.TcCoe Cert.Rvq
open Cert.ReferenceIdeal Cert.ReferenceIdeal.Gen Cert.ReferenceIdeal.Run

variable (x : FVec Ideal S8192x256 .f32) (c0 c1 c2 : FVec Ideal S1024x256 .f32)

/-- The quantized rows. -/
theorem xq_at (i : Fin 8192) (j : Fin 256) :
    sumA (F := Ideal) (restA (restA x c0) c1) c2 (sumA (restA x c0) c1 (sumA x c0 zerosA)) (ix2 i j)
      = quant (rowOf c0) (rowOf c1) (rowOf c2) (rowOf x i) j := by
  have hz : zerosA (F := Ideal) (ix2 i j) = 0 := by pointwise [zerosA]
  rw [sumA_at, sumA_at, sumA_at, hz]
  simp only [restA_row]
  rfl

/-- The columns of indices. -/
theorem codesA_at (i0 i1 i2 e : IVec S8192 32) (i : Fin 8192) (s : Fin 4) :
    codesA i0 i1 i2 e (ix2 i s) = (![i0 (ix1 i), i1 (ix1 i), i2 (ix1 i), e (ix1 i)] : Fin 4 → BitVec 32) s := by
  fin_cases s <;> pointwise [codesA] <;> rfl

/-- The rows' indices. -/
theorem codes_at (w : FVec Ideal S256x8 .f32) (b : FVec Ideal S8 .f32) (i : Fin 8192) (s : Fin 4)
    (hx : ∀ j, IsReal (x (ix2 i j))) (hw : ∀ j e, IsReal (w (ix2 j e))) (hb : ∀ e, IsReal (b (ix1 e))) :
    codesA (idxA (F := Ideal) x c0) (idxA (restA x c0) c1) (idxA (restA (restA x c0) c1) c2) (argmaxA (probsA (logitsA x w b))) (ix2 i s)
      = codes (rowOf c0) (rowOf c1) (rowOf c2) (rowOf w) (fun e => b (ix1 e)) (rowOf x i) s := by
  rw [codesA_at, idxA_at, idxA_at, idxA_at, expert_at x w b i hx hw hb]
  simp only [restA_row]
  rfl

/-- The mean of three losses. -/
theorem meanLossA_at (l : Fin 3 → FVec Ideal S_ .f32) (z : S_.Idx) :
    meanLossA (F := Ideal) (l 0) (l 1) (l 2) z = Ideal.div (∑ s, l s z) ((3 : ℝ) : EReal) := by
  obtain rfl : z = ix0 := Subsingleton.elim _ _
  rw [Fin.sum_univ_three]
  pointwise [meanLossA, ofBits_three]
  simp [Fin.sum_univ_three]

/-- One stage's loss. -/
theorem lossA_at (r : FVec Ideal S8192x256 .f32) (cb : FVec Ideal S1024x256 .f32) (z : S_.Idx) :
    lossA (F := Ideal) r cb z = Ideal.div (∑ i, sqSum (rowOf cb) (rowOf r i)) ((2097152 : ℝ) : EReal)
      + 1 * Ideal.div (∑ i, sqSum (rowOf cb) (rowOf r i)) ((2097152 : ℝ) : EReal) := by
  rw [← meanA_eq r cb z]
  pointwise [lossA, ofBits_one]

/-- The mean loss. -/
theorem loss_at (z : S_.Idx) :
    meanLossA (F := Ideal) (lossA x c0) (lossA (restA x c0) c1) (lossA (restA (restA x c0) c1) c2) z
      = meanOf fun i => losses (rowOf c0) (rowOf c1) (rowOf c2) (rowOf x i) := by
  refine (meanLossA_at ![lossA x c0, lossA (restA x c0) c1, lossA (restA (restA x c0) c1) c2] z).trans ?_
  unfold meanOf
  refine congrArg (fun a => Ideal.div a _) (Finset.sum_congr rfl fun s _ => ?_)
  fin_cases s
  · exact lossA_at x c0 z
  · refine (lossA_at (restA x c0) c1 z).trans ?_
    simp only [restA_row]
    rfl
  · refine (lossA_at (restA (restA x c0) c1) c2 z).trans ?_
    simp only [restA_row]
    rfl

end Cert.ReferenceIdeal.Value

end
-- ==== Proof.Agree.lean ====
/- On equal finite arguments the reference's results are the kernel's. -/
module

public import proofs.«01_k».proof.Proof.KernelRun
public import proofs.«01_k».proof.Proof.RefValue

@[expose] public section

set_option maxRecDepth 16384

noncomputable section

namespace Cert.Agree

open Idealize.ShloMosaic Idealize.ShloMosaic.TcCoe Idealize.ShloMosaic.StableHlo Cert.Rvq
open Cert.KernelIdeal.Value (xA c0A c1A c2A wA bA Finite3 quantA)
open Cert.ReferenceIdeal.Run

variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))

/-- The reference's six float arguments are the kernel's. -/
structure Same : Prop where
  x : V (Cert.ReferenceIdeal.main_arg0 : DevRef Cert.ReferenceIdeal.τ Cert.ReferenceIdeal.sig) = xA m c
  c0 : V (Cert.ReferenceIdeal.main_arg1 : DevRef Cert.ReferenceIdeal.τ Cert.ReferenceIdeal.sig) = c0A m c
  c1 : V (Cert.ReferenceIdeal.main_arg2 : DevRef Cert.ReferenceIdeal.τ Cert.ReferenceIdeal.sig) = c1A m c
  c2 : V (Cert.ReferenceIdeal.main_arg3 : DevRef Cert.ReferenceIdeal.τ Cert.ReferenceIdeal.sig) = c2A m c
  w : V (Cert.ReferenceIdeal.main_arg4 : DevRef Cert.ReferenceIdeal.τ Cert.ReferenceIdeal.sig) = wA m c
  b : V (Cert.ReferenceIdeal.main_arg5 : DevRef Cert.ReferenceIdeal.τ Cert.ReferenceIdeal.sig) = bA m c

/-- The kernel's six float arguments are finite. -/
structure Finite : Prop where
  x : ∀ i, IsReal (xA m c i)
  c0 : ∀ i, IsReal (c0A m c i)
  c1 : ∀ i, IsReal (c1A m c i)
  c2 : ∀ i, IsReal (c2A m c i)
  w : ∀ i, IsReal (wA m c i)
  b : ∀ i, IsReal (bA m c i)

variable {m c V}

theorem Finite.books (h : Finite m c) : Finite3 m c := ⟨fun _ _ => h.c0 _, fun _ _ => h.c1 _, fun _ _ => h.c2 _⟩

/-- The quantized rows agree. -/
theorem quant_agrees (s : Same m c V) :
    after ops V (Cert.ReferenceIdeal.main_v105 : DevRef Cert.ReferenceIdeal.τ Cert.ReferenceIdeal.sig) = quantA m c := by
  rw [ops_xq, r2, r1, s.x, s.c0, s.c1, s.c2]
  funext j
  idx_vars j
  exact Cert.ReferenceIdeal.Value.xq_at _ _ _ _ j0 j1

/-- The rows' indices agree. -/
theorem codes_agree (s : Same m c V) (h : Finite m c) :
    after ops V (Cert.ReferenceIdeal.main_v117 : DevRef Cert.ReferenceIdeal.τ Cert.ReferenceIdeal.sig) = Cert.KernelIdeal.Value.codesA m c := by
  rw [ops_codes, r2, r1, s.x, s.c0, s.c1, s.c2, s.w, s.b]
  funext j
  idx_vars j
  exact Cert.ReferenceIdeal.Value.codes_at _ _ _ _ _ _ j0 j1 (fun _ => h.x _) (fun _ _ => h.w _) fun _ => h.b _

/-- The mean loss agrees. -/
theorem loss_agrees (s : Same m c V) (h : Finite m c) :
    after ops V (Cert.ReferenceIdeal.main_v112 : DevRef Cert.ReferenceIdeal.τ Cert.ReferenceIdeal.sig) = Cert.KernelIdeal.Value.lossA m c := by
  rw [ops_loss, r2, r1, s.x, s.c0, s.c1, s.c2]
  funext z
  refine (Cert.ReferenceIdeal.Value.loss_at _ _ _ _ z).trans ?_
  exact (blocks_eq_meanOf _ fun i k => isReal_losses (fun _ _ => h.c0 _) (fun _ _ => h.c1 _) (fun _ _ => h.c2 _) (fun _ => h.x _) k).symm

end Cert.Agree

end
-- ==== Proof.Finite.lean ====
/- The precondition read back: where it holds, every entry of the six float arguments is a real number. -/
module

public import proofs.«01_k».proof.Proof.Gen.Pre_finite
public import proofs.«01_k».proof.Proof.Facts
public import Idealize.ShloMosaic.Lib.ReduceAll

@[expose] public section

noncomputable section

namespace Cert.Pre_finite

open Idealize.ShloMosaic Cert.Rvq Cert.Pre_finite.Gen

/-- A value whose absolute value is below infinity is a real number. -/
theorem isReal_of_abs_lt {x : EReal} (h : FloatOps.cmpf (F := Ideal) (φ := .f32) .olt (max x (-x)) (Ideal.ofBits .f32 0x7F800000#32) = 1#1) :
    IsReal x := by
  rw [ofBits_top] at h
  have h : max x (-x) < ⊤ := by
    by_contra hn
    simp [FloatOps.cmpf, Ideal.cmp, hn] at h
  refine isReal_of_ne (fun e => ?_) (fun e => ?_) <;> subst e <;> simp at h

/-- An array of which every absolute value is found below infinity holds real numbers. -/
theorem isReal_of_all {s : Shape} {axes : List (Fin s.rank)} (x : FVec Ideal s .f32) (t : FVec Ideal s .f32) (ht : ∀ i, t i = Ideal.ofBits .f32 0x7F800000#32)
    (h : s.ReducesTo axes S_) (z : S_.Idx)
    (e : Host.reduce IntOp.andi (cmpf .olt (Host.absf x) t) (constantI S_ 1 1#1) h h_S_ z = 1#1) (i : s.Idx) : IsReal (x i) := by
  have : Subsingleton S_.Idx := inferInstance
  have h1 := Host.reduce_andi_all _ _ h h_S_ z e i
  refine isReal_of_abs_lt ?_
  rw [← ht i]
  exact h1

/-- The precondition holds only where every float argument is finite. -/
theorem isReal_of_fn (x : FVec Ideal S8192x256 .f32) (c0 c1 c2 : FVec Ideal S1024x256 .f32) (w : FVec Ideal S256x8 .f32) (b : FVec Ideal S8 .f32)
    (l0 l1 l2 : IVec S8192 32) (z : S_.Idx) (h : fn (F := Ideal) x c0 c1 c2 w b l0 l1 l2 z = 1#1) :
    (∀ i, IsReal (x i)) ∧ (∀ i, IsReal (c0 i)) ∧ (∀ i, IsReal (c1 i)) ∧ (∀ i, IsReal (c2 i)) ∧ (∀ i, IsReal (w i)) ∧ ∀ i, IsReal (b i) := by
  obtain ⟨h, hb⟩ := IntOp.andi_eq_one.1 h
  obtain ⟨h, hw⟩ := IntOp.andi_eq_one.1 h
  obtain ⟨h, h2⟩ := IntOp.andi_eq_one.1 h
  obtain ⟨h, h1⟩ := IntOp.andi_eq_one.1 h
  obtain ⟨hx, h0⟩ := IntOp.andi_eq_one.1 h
  exact ⟨isReal_of_all x _ (fun _ => rfl) _ z hx, isReal_of_all c0 _ (fun _ => rfl) _ z h0, isReal_of_all c1 _ (fun _ => rfl) _ z h1,
    isReal_of_all c2 _ (fun _ => rfl) _ z h2, isReal_of_all w _ (fun _ => rfl) _ z hw, isReal_of_all b _ (fun _ => rfl) _ z hb⟩

end Cert.Pre_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Agree
public import proofs.«01_k».proof.Proof.Finite
public import Idealize.ShloMosaic.Adequacy
public import Idealize.ShloMosaic.Init

@[expose] public section

set_option maxRecDepth 65536

noncomputable section

namespace Cert.Proof

open Idealize.ShloMosaic Idealize.ShloMosaic.TcCoe Idealize.ShloMosaic.StableHlo Idealize.SL.Sem

/-- A buffer that no operation of the reference writes ends as it began. -/
theorem reference_keeps {m : (ℓ : Loc Cert.ReferenceIdeal.nD Cert.ReferenceIdeal.τ Cert.ReferenceIdeal.sig) → Buf (Elt Ideal) ℓ}
    {μ : (ℓ : Loc Cert.ReferenceIdeal.nD Cert.ReferenceIdeal.τ Cert.ReferenceIdeal.sig) → Buf (Elt Ideal) ℓ}
    (h : ∀ (d : Dev Cert.ReferenceIdeal.nD) (b : Ref Cert.ReferenceIdeal.sig .tc), μ ((d.tc : Thread Cert.ReferenceIdeal.nD Cert.ReferenceIdeal.τ).loc b)
      = after Cert.ReferenceIdeal.Run.ops (launchContents m d) (b : DevRef Cert.ReferenceIdeal.τ Cert.ReferenceIdeal.sig))
    (d : Dev Cert.ReferenceIdeal.nD) (b : Ref Cert.ReferenceIdeal.sig .tc) (h0 : b ∉ Cert.ReferenceIdeal.Run.gateW) (h1 : Cert.ReferenceIdeal.Run.Kept b)
    (h2 : b ∉ Cert.ReferenceIdeal.Run.expertW) (h3 : b ∉ Cert.ReferenceIdeal.Run.endW) :
    μ ((d.tc : Thread Cert.ReferenceIdeal.nD Cert.ReferenceIdeal.τ).loc b) = m ((d.tc : Thread Cert.ReferenceIdeal.nD Cert.ReferenceIdeal.τ).loc b) :=
  (h d b).trans (Cert.ReferenceIdeal.Run.ops_keeps _ h0 h1 h2 h3)

/-- The reference runs, keeps its arguments, and ends with every semaphore at zero. -/
theorem reference_frame : Cert.quiescent_ReferenceIdeal (hReferenceIdeal := Cert.ReferenceIdeal.Gen.facts) := fun m g _ =>
  (θ_run Cert.ReferenceIdeal.defs _ _).mono (fun r h => ⟨fun c =>
    ⟨reference_keeps h c _ (by decide) (by decide) (by decide) (by decide), reference_keeps h c _ (by decide) (by decide) (by decide) (by decide),
      reference_keeps h c _ (by decide) (by decide) (by decide) (by decide), reference_keeps h c _ (by decide) (by decide) (by decide) (by decide),
      reference_keeps h c _ (by decide) (by decide) (by decide) (by decide), reference_keeps h c _ (by decide) (by decide) (by decide) (by decide),
      reference_keeps h c _ (by decide) (by decide) (by decide) (by decide), reference_keeps h c _ (by decide) (by decide) (by decide) (by decide),
      reference_keeps h c _ (by decide) (by decide) (by decide) (by decide)⟩,
    sem_eq_zero_of_no_sems (by decide) r.2⟩) (Cert.ReferenceIdeal.Run.run_main m g)

/-- The precondition makes the kernel's float arguments finite. -/
theorem finite_of_pre {m : (ℓ : Loc Cert.KernelIdeal.nD Cert.KernelIdeal.τ Cert.KernelIdeal.sig) → Buf (Elt Ideal) ℓ}
    (h : Cert.Pre_KernelIdeal_finite (hPre_finite := Cert.Pre_finite.Gen.facts) m) (c : Dev Cert.KernelIdeal.nD) : Cert.Agree.Finite m c := by
  obtain ⟨h0, h1, h2, h3, h4, h5⟩ := Cert.Pre_finite.isReal_of_fn _ _ _ _ _ _ _ _ _ ix0 (congrFun (h c) ix0)
  exact ⟨h0, h1, h2, h3, h4, h5⟩

/-- On equal finite arguments the two programs end with equal results. -/
theorem results_agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hsame
  have hf := finite_of_pre hpre
  have hs (c : Dev Cert.KernelIdeal.nD) : Cert.Agree.Same m c (launchContents m' c) := by
    obtain ⟨h0, h1, h2, h3, h4, h5, -⟩ := hsame c
    exact ⟨h0, h1, h2, h3, h4, h5⟩
  refine ⟨Cert.KernelIdeal.Value.quantA m, Cert.KernelIdeal.Value.lossA m, Cert.KernelIdeal.Value.codesA m, ?_, ?_⟩
  · refine (θ_run Cert.KernelIdeal.defs _ _).mono (fun r h c => ?_)
      (θ_run_and (Cert.KernelIdeal.Value.run_results m g fun c => (hf c).books) (Cert.KernelIdeal.Gen.frame (F := Ideal) m g))
    exact ⟨(h.1 c).1, (h.1 c).2.1, (h.1 c).2.2, h.2.1 c⟩
  · refine (θ_run Cert.ReferenceIdeal.defs _ _).mono (fun r h c => ?_)
      (θ_run_and (Cert.ReferenceIdeal.Run.run_main m' g') (reference_frame m' g' trivial))
    exact ⟨(h.1 c _).trans (Cert.Agree.quant_agrees (hs c)), (h.1 c _).trans (Cert.Agree.loss_agrees (hs c) (hf c)),
      (h.1 c _).trans (Cert.Agree.codes_agree (hs c) (hf c)), h.2.1 c⟩

theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial,
  IdealRules.named_const.statement Cert.KernelIdeal.κ "mean" .f32 0x34AAAAAB#32 ((1 / 3145728 : ℝ) : EReal) rfl, results_agree⟩

end Cert.Proof

end
